-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_negative_nan [hPre_no_negative_nan : Cert.Pre_no_negative_nan.Facts] (m : (ℓ : Loc Cert.KernelIdeal.nD Cert.KernelIdeal.τ Cert.KernelIdeal.sig) → Buf (Elt Ideal) ℓ) : Prop :=
  ∀ c : Dev Cert.KernelIdeal.nD,
    (Cert.Pre_no_negative_nan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_negative_nan [hPre_no_negative_nan : Cert.Pre_no_negative_nan.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_negative_nan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_no_negative_nan [hKernelIdeal : Cert.KernelIdeal.Facts] [hPre_no_negative_nan : Cert.Pre_no_negative_nan.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_negative_nan m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_no_negative_nan [hReferenceIdeal : Cert.ReferenceIdeal.Facts] [hPre_no_negative_nan : Cert.Pre_no_negative_nan.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_negative_nan m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_no_negative_nan [hKernelIdeal : Cert.KernelIdeal.Facts] [hReferenceIdeal : Cert.ReferenceIdeal.Facts] [hPre_no_negative_nan : Cert.Pre_no_negative_nan.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_negative_nan m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_no_negative_nan : Cert.Pre_no_negative_nan.Facts),
    quiescent_Kernel (hKernel := hKernel)
    ∧ quiescent_KernelIdeal (hKernelIdeal := hKernelIdeal)
    ∧ quiescent_KernelIdeal_pre_no_negative_nan (hKernelIdeal := hKernelIdeal) (hPre_no_negative_nan := hPre_no_negative_nan)
    ∧ quiescent_ReferenceIdeal (hReferenceIdeal := hReferenceIdeal)
    ∧ quiescent_ReferenceIdeal_pre_no_negative_nan (hReferenceIdeal := hReferenceIdeal) (hPre_no_negative_nan := hPre_no_negative_nan)
    ∧ preserves_Kernel_KernelIdeal
    ∧ algebraic_KernelIdeal_ReferenceIdeal_pre_no_negative_nan (hKernelIdeal := hKernelIdeal) (hReferenceIdeal := hReferenceIdeal) (hPre_no_negative_nan := hPre_no_negative_nan)
-- ==== Pre_no_negative_nan.lean ====
abbrev S256x1x7168 : Shape := ⟨3, ![256, 1, 7168]⟩
abbrev S28x2x64x18432 : Shape := ⟨4, ![28, 2, 64, 18432]⟩
abbrev S28x2x32x18432 : Shape := ⟨4, ![28, 2, 32, 18432]⟩
abbrev S28x16x18432 : Shape := ⟨3, ![28, 16, 18432]⟩
abbrev S28x18432 : Shape := ⟨2, ![28, 18432]⟩
abbrev S_ : Shape := ⟨0, ![]⟩

class Facts : Prop where
  natLt_16_32 : 16 < 32
  bcast_S_S28x18432 : S_.BroadcastsInDim S28x18432 (![] : Fin 0 → Fin S28x18432.rank)

variable [Facts]

def fn {F : FTy → Type} [FloatOps F] (main_arg0 : FVec F S256x1x7168 .bf16) (main_arg1 : IVec S28x2x64x18432 8) (main_arg2 : IVec S28x2x32x18432 8) (main_arg3 : IVec S28x16x18432 8) (main_arg4 : IVec S28x18432 16) : IVec S28x18432 1 :=
  let main_v0 : IVec S28x18432 32 := (extsi 32 · natLt_16_32) main_arg4
  let main_c : IVec S_ 32 := constantI S_ 32 0#32
  let main_v1 : IVec S28x18432 32 := broadcastInDim S28x18432 ![] bcast_S_S28x18432 main_c
  let main_v2 : IVec S28x18432 1 := cmpi .sge main_v0 main_v1
  let main_c_0 : IVec S_ 32 := constantI S_ 32 4294966272#32
  let main_v3 : IVec S28x18432 32 := broadcastInDim S28x18432 ![] bcast_S_S28x18432 main_c_0
  let main_v4 : IVec S28x18432 1 := cmpi .sle main_v0 main_v3
  let main_v5 : IVec S28x18432 1 := ori main_v2 main_v4
  main_v5
-- ==== Kernel.lean ====
abbrev S256x1x7168 : Shape := ⟨3, ![256, 1, 7168]⟩
abbrev S28x2x64x18432 : Shape := ⟨4, ![28, 2, 64, 18432]⟩
abbrev S28x2x32x18432 : Shape := ⟨4, ![28, 2, 32, 18432]⟩
abbrev S28x16x18432 : Shape := ⟨3, ![28, 16, 18432]⟩
abbrev S28x18432 : Shape := ⟨2, ![28, 18432]⟩
abbrev S256x7168 : Shape := ⟨2, ![256, 7168]⟩
abbrev S28x1x18432 : Shape := ⟨3, ![28, 1, 18432]⟩
abbrev S256x18432 : Shape := ⟨2, ![256, 18432]⟩
abbrev S28x2x64x512 : Shape := ⟨4, ![28, 2, 64, 512]⟩
abbrev S28x2x32x512 : Shape := ⟨4, ![28, 2, 32, 512]⟩
abbrev S28x16x512 : Shape := ⟨3, ![28, 16, 512]⟩
abbrev S28x1x512 : Shape := ⟨3, ![28, 1, 512]⟩
abbrev S256x512 : Shape := ⟨2, ![256, 512]⟩
abbrev S1x1x512 : Shape := ⟨3, ![1, 1, 512]⟩
abbrev S1x512 : Shape := ⟨2, ![1, 512]⟩
abbrev S1x16x512 : Shape := ⟨3, ![1, 16, 512]⟩
abbrev S16x512 : Shape := ⟨2, ![16, 512]⟩
abbrev S1x1x32x512 : Shape := ⟨4, ![1, 1, 32, 512]⟩
abbrev S32x512 : Shape := ⟨2, ![32, 512]⟩
abbrev S8x512 : Shape := ⟨2, ![8, 512]⟩
abbrev S256x256 : Shape := ⟨2, ![256, 256]⟩

abbrev nBuf : Space → Nat
  | .hbm => 8
  | .vmem => 12
  | .smem => 0
  | _ => 0

abbrev bufTy : (tb : Table) → Fin (tcTables nBuf tb) → BufTy
  | .hbm, ⟨0, _⟩ => ⟨S256x1x7168, .bf16⟩
  | .hbm, ⟨1, _⟩ => ⟨S28x2x64x18432, .i8⟩
  | .hbm, ⟨2, _⟩ => ⟨S28x2x32x18432, .i8⟩
  | .hbm, ⟨3, _⟩ => ⟨S28x16x18432, .i8⟩
  | .hbm, ⟨4, _⟩ => ⟨S28x18432, .i16⟩
  | .hbm, ⟨5, _⟩ => ⟨S256x7168, .bf16⟩
  | .hbm, ⟨6, _⟩ => ⟨S28x1x18432, .i16⟩
  | .hbm, ⟨7, _⟩ => ⟨S256x18432, .bf16⟩
  | .local _ .vmem, ⟨0, _⟩ => ⟨S256x7168, .bf16⟩
  | .local _ .vmem, ⟨1, _⟩ => ⟨S28x2x64x512, .i8⟩
  | .local _ .vmem, ⟨2, _⟩ => ⟨S28x2x64x512, .i8⟩
  | .local _ .vmem, ⟨3, _⟩ => ⟨S28x2x32x512, .i8⟩
  | .local _ .vmem, ⟨4, _⟩ => ⟨S28x2x32x512, .i8⟩
  | .local _ .vmem, ⟨5, _⟩ => ⟨S28x16x512, .i8⟩
  | .local _ .vmem, ⟨6, _⟩ => ⟨S28x16x512, .i8⟩
  | .local _ .vmem, ⟨7, _⟩ => ⟨S28x1x512, .i16⟩
  | .local _ .vmem, ⟨8, _⟩ => ⟨S28x1x512, .i16⟩
  | .local _ .vmem, ⟨9, _⟩ => ⟨S256x512, .bf16⟩
  | .local _ .vmem, ⟨10, _⟩ => ⟨S256x512, .bf16⟩
  | .local _ .vmem, ⟨11, _⟩ => ⟨S256x512, .f32⟩
  | _, _ => ⟨S256x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![36], ![false]⟩

@[reducible] def k0_t1_loop : Scf.Loop 32 :=
  let c0_i32 : BitVec 32 := 0#32
  let c28_i32 : BitVec 32 := 28#32
  let v4 : BitVec 32 := Scalar.addi c0_i32 c28_i32
  let c1_i32 : BitVec 32 := 1#32
  ⟨c0_i32, v4, c1_i32⟩
def k0_off1 (k0_t1 : Fin k0_t1_loop.trips) : Fin 3 → Nat :=
  let c0_i32 : BitVec 32 := 0#32
  let c1_i32 : BitVec 32 := 1#32
  let arg8 : BitVec 32 := Scf.iv c0_i32 c1_i32 k0_t1
  let v8 : Index := Scalar.indexCast arg8
  let c0_6 : Index := 0#32
  let c0_7 : Index := 0#32
  ![v8.toNat, 0, 0]
def k0_off2 (k0_t1 : Fin k0_t1_loop.trips) : Fin 3 → Nat :=
  let c0_i32 : BitVec 32 := 0#32
  let c1_i32 : BitVec 32 := 1#32
  let arg8 : BitVec 32 := Scf.iv c0_i32 c1_i32 k0_t1
  let v48 : Index := Scalar.indexCast arg8
  let c0_15 : Index := 0#32
  let c0_16 : Index := 0#32
  ![v48.toNat, 0, 0]
def k0_off3 (k0_t1 : Fin k0_t1_loop.trips) : Fin 4 → Nat :=
  let c0_i32 : BitVec 32 := 0#32
  let c1_i32 : BitVec 32 := 1#32
  let arg8 : BitVec 32 := Scf.iv c0_i32 c1_i32 k0_t1
  let v55 : Index := Scalar.indexCast arg8
  let c0_17 : Index := 0#32
  let c0_18 : Index := 0#32
  let c0_19 : Index := 0#32
  ![v55.toNat, 0, 0, 0]
def k0_off4 (k0_t1 : Fin k0_t1_loop.trips) : Fin 4 → Nat :=
  let c0_i32 : BitVec 32 := 0#32
  let c1_i32 : BitVec 32 := 1#32
  let arg8 : BitVec 32 := Scf.iv c0_i32 c1_i32 k0_t1
  let v58 : Index := Scalar.indexCast arg8
  let c0_20 : Index := 0#32
  let c32 : Index := 32#32
  let c0_21 : Index := 0#32
  ![v58.toNat, 0, 32, 0]
def k0_off5 (k0_t1 : Fin k0_t1_loop.trips) : Fin 4 → Nat :=
  let c0_i32 : BitVec 32 := 0#32
  let c1_i32 : BitVec 32 := 1#32
  let arg8 : BitVec 32 := Scf.iv c0_i32 c1_i32 k0_t1
  let v61 : Index := Scalar.indexCast arg8
  let c0_22 : Index := 0#32
  let c0_23 : Index := 0#32
  let c0_24 : Index := 0#32
  ![v61.toNat, 0, 0, 0]
def k0_off6 (k0_t1 : Fin k0_t1_loop.trips) : Fin 4 → Nat :=
  let c0_i32 : BitVec 32 := 0#32
  let c1_i32 : BitVec 32 := 1#32
  let arg8 : BitVec 32 := Scf.iv c0_i32 c1_i32 k0_t1
  let v143 : Index := Scalar.indexCast arg8
  let c1 : Index := 1#32
  let c0_35 : Index := 0#32
  let c0_36 : Index := 0#32
  ![v143.toNat, 1, 0, 0]
def k0_off7 (k0_t1 : Fin k0_t1_loop.trips) : Fin 4 → Nat :=
  let c0_i32 : BitVec 32 := 0#32
  let c1_i32 : BitVec 32 := 1#32
  let arg8 : BitVec 32 := Scf.iv c0_i32 c1_i32 k0_t1
  let v146 : Index := Scalar.indexCast arg8
  let c1_37 : Index := 1#32
  let c32_38 : Index := 32#32
  let c0_39 : Index := 0#32
  ![v146.toNat, 1, 32, 0]
def k0_off8 (k0_t1 : Fin k0_t1_loop.trips) : Fin 4 → Nat :=
  let c0_i32 : BitVec 32 := 0#32
  let c1_i32 : BitVec 32 := 1#32
  let arg8 : BitVec 32 := Scf.iv c0_i32 c1_i32 k0_t1
  let v149 : Index := Scalar.indexCast arg8
  let c1_40 : Index := 1#32
  let c0_41 : Index := 0#32
  let c0_42 : Index := 0#32
  ![v149.toNat, 1, 0, 0]
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v232 : BitVec 32 := Scalar.muli arg8 c256_i32
  v232
def k0_off9 (k0_t1 : Fin k0_t1_loop.trips) : Fin 2 → Nat :=
  let c0_59 : Index := 0#32
  let c0_i32 : BitVec 32 := 0#32
  let c1_i32 : BitVec 32 := 1#32
  let arg8 : BitVec 32 := Scf.iv c0_i32 c1_i32 k0_t1
  let c256_i32 : BitVec 32 := 256#32
  let v232 : BitVec 32 := Scalar.muli arg8 c256_i32
  let v233 : BitVec 32 := v232
  let v234 : Index := Scalar.indexCast v233
  ![0, v234.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S28x2x64x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S28x2x32x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S28x16x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S28x1x512 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S256x1x7168 : Shape := ⟨3, ![256, 1, 7168]⟩
abbrev S28x2x64x18432 : Shape := ⟨4, ![28, 2, 64, 18432]⟩
abbrev S28x2x32x18432 : Shape := ⟨4, ![28, 2, 32, 18432]⟩
abbrev S28x16x18432 : Shape := ⟨3, ![28, 16, 18432]⟩
abbrev S28x18432 : Shape := ⟨2, ![28, 18432]⟩
abbrev S28x1x18432 : Shape := ⟨3, ![28, 1, 18432]⟩
abbrev S28x2x4x2x1x18432 : Shape := ⟨6, ![28, 2, 4, 2, 1, 18432]⟩
abbrev S256x1x28x2x4x32 : Shape := ⟨6, ![256, 1, 28, 2, 4, 32]⟩
abbrev S_ : Shape := ⟨0, ![]⟩
abbrev S256x1x18432 : Shape := ⟨3, ![256, 1, 18432]⟩
abbrev S28x2x2x16x18432 : Shape := ⟨5, ![28, 2, 2, 16, 18432]⟩
abbrev S28x2x1x2x1x18432 : Shape := ⟨6, ![28, 2, 1, 2, 1, 18432]⟩
abbrev S28x2x2x1x18432 : Shape := ⟨5, ![28, 2, 2, 1, 18432]⟩
abbrev S256x1x28x2x1x32 : Shape := ⟨6, ![256, 1, 28, 2, 1, 32]⟩
abbrev S256x1x28x2x32 : Shape := ⟨5, ![256, 1, 28, 2, 32]⟩
abbrev S256x18432 : Shape := ⟨2, ![256, 18432]⟩

abbrev nBuf : Space → Nat
  | .hbm => 127
  | .vmem => 2
  | .smem => 0
  | _ => 0

abbrev bufTy : (tb : Table) → Fin (tcTables nBuf tb) → BufTy
  | .hbm, ⟨0, _⟩ => ⟨S256x1x7168, .bf16⟩
  | .hbm, ⟨1, _⟩ => ⟨S28x2x64x18432, .i8⟩
  | .hbm, ⟨2, _⟩ => ⟨S28x2x32x18432, .i8⟩
  | .hbm, ⟨3, _⟩ => ⟨S28x16x18432, .i8⟩
  | .hbm, ⟨4, _⟩ => ⟨S28x18432, .i16⟩
  | .hbm, ⟨5, _⟩ => ⟨S28x18432, .f32⟩
  | .hbm, ⟨6, _⟩ => ⟨S28x16x18432, .i32⟩
  | .hbm, ⟨7, _⟩ => ⟨S28x16x18432, .f32⟩
  | .hbm, ⟨8, _⟩ => ⟨S28x1x18432, .f32⟩
  | .hbm, ⟨9, _⟩ => ⟨S28x16x18432, .f32⟩
  | .hbm, ⟨10, _⟩ => ⟨S28x16x18432, .f32⟩
  | .hbm, ⟨11, _⟩ => ⟨S28x16x18432, .bf16⟩
  | .hbm, ⟨12, _⟩ => ⟨S28x2x4x2x1x18432, .bf16⟩
  | .hbm, ⟨13, _⟩ => ⟨S256x1x28x2x4x32, .bf16⟩
  | .hbm, ⟨14, _⟩ => ⟨S_, .f32⟩
  | .hbm, ⟨15, _⟩ => ⟨S256x1x18432, .f32⟩
  | .hbm, ⟨16, _⟩ => ⟨S28x2x64x18432, .i32⟩
  | .hbm, ⟨17, _⟩ => ⟨S28x2x32x18432, .i32⟩
  | .hbm, ⟨18, _⟩ => ⟨S28x2x32x18432, .i32⟩
  | .hbm, ⟨19, _⟩ => ⟨S28x2x32x18432, .i32⟩
  | .hbm, ⟨20, _⟩ => ⟨S_, .i32⟩
  | .hbm, ⟨21, _⟩ => ⟨S28x2x32x18432, .i32⟩
  | .hbm, ⟨22, _⟩ => ⟨S28x2x32x18432, .i32⟩
  | .hbm, ⟨23, _⟩ => ⟨S_, .i32⟩
  | .hbm, ⟨24, _⟩ => ⟨S28x2x32x18432, .i32⟩
  | .hbm, ⟨25, _⟩ => ⟨S28x2x32x18432, .i32⟩
  | .hbm, ⟨26, _⟩ => ⟨S_, .i32⟩
  | .hbm, ⟨27, _⟩ => ⟨S28x2x32x18432, .i32⟩
  | .hbm, ⟨28, _⟩ => ⟨S28x2x32x18432, .i32⟩
  | .hbm, ⟨29, _⟩ => ⟨S28x2x32x18432, .i32⟩
  | .hbm, ⟨30, _⟩ => ⟨S_, .i32⟩
  | .hbm, ⟨31, _⟩ => ⟨S28x2x32x18432, .i32⟩
  | .hbm, ⟨32, _⟩ => ⟨S28x2x32x18432, .i32⟩
  | .hbm, ⟨33, _⟩ => ⟨S_, .i32⟩
  | .hbm, ⟨34, _⟩ => ⟨S28x2x32x18432, .i32⟩
  | .hbm, ⟨35, _⟩ => ⟨S28x2x32x18432, .i32⟩
  | .hbm, ⟨36, _⟩ => ⟨S_, .i32⟩
  | .hbm, ⟨37, _⟩ => ⟨S28x2x32x18432, .i32⟩
  | .hbm, ⟨38, _⟩ => ⟨S28x2x32x18432, .i32⟩
  | .hbm, ⟨39, _⟩ => ⟨S_, .i32⟩
  | .hbm, ⟨40, _⟩ => ⟨S28x2x32x18432, .i32⟩
  | .hbm, ⟨41, _⟩ => ⟨S28x2x32x18432, .i32⟩
  | .hbm, ⟨42, _⟩ => ⟨S28x2x32x18432, .i32⟩
  | .hbm, ⟨43, _⟩ => ⟨S_, .i32⟩
  | .hbm, ⟨44, _⟩ => ⟨S28x2x32x18432, .i32⟩
  | .hbm, ⟨45, _⟩ => ⟨S28x2x32x18432, .i32⟩
  | .hbm, ⟨46, _⟩ => ⟨S_, .i32⟩
  | .hbm, ⟨47, _⟩ => ⟨S28x2x32x18432, .i32⟩
  | .hbm, ⟨48, _⟩ => ⟨S28x2x32x18432, .i32⟩
  | .hbm, ⟨49, _⟩ => ⟨S_, .i32⟩
  | .hbm, ⟨50, _⟩ => ⟨S28x2x32x18432, .i32⟩
  | .hbm, ⟨51, _⟩ => ⟨S28x2x32x18432, .i32⟩
  | .hbm, ⟨52, _⟩ => ⟨S_, .i32⟩
  | .hbm, ⟨53, _⟩ => ⟨S28x2x32x18432, .i32⟩
  | .hbm, ⟨54, _⟩ => ⟨S28x2x32x18432, .i32⟩
  | .hbm, ⟨55, _⟩ => ⟨S28x2x32x18432, .i32⟩
  | .hbm, ⟨56, _⟩ => ⟨S_, .i32⟩
  | .hbm, ⟨57, _⟩ => ⟨S28x2x32x18432, .i32⟩
  | .hbm, ⟨58, _⟩ => ⟨S28x2x32x18432, .i32⟩
  | .hbm, ⟨59, _⟩ => ⟨S_, .i32⟩
  | .hbm, ⟨60, _⟩ => ⟨S28x2x32x18432, .i32⟩
  | .hbm, ⟨61, _⟩ => ⟨S28x2x32x18432, .i32⟩
  | .hbm, ⟨62, _⟩ => ⟨S_, .i32⟩
  | .hbm, ⟨63, _⟩ => ⟨S28x2x32x18432, .i32⟩
  | .hbm, ⟨64, _⟩ => ⟨S28x2x32x18432, .i32⟩
  | .hbm, ⟨65, _⟩ => ⟨S_, .i32⟩
  | .hbm, ⟨66, _⟩ => ⟨S28x2x32x18432, .i32⟩
  | .hbm, ⟨67, _⟩ => ⟨S28x2x32x18432, .i32⟩
  | .hbm, ⟨68, _⟩ => ⟨S28x2x32x18432, .i32⟩
  | .hbm, ⟨69, _⟩ => ⟨S28x2x32x18432, .bf16⟩
  | .hbm, ⟨70, _⟩ => ⟨S_, .bf16⟩
  | .hbm, ⟨71, _⟩ => ⟨S28x2x32x18432, .bf16⟩
  | .hbm, ⟨72, _⟩ => ⟨S28x2x32x18432, .bf16⟩
  | .hbm, ⟨73, _⟩ => ⟨S28x2x2x16x18432, .bf16⟩
  | .hbm, ⟨74, _⟩ => ⟨S28x2x1x2x1x18432, .bf16⟩
  | .hbm, ⟨75, _⟩ => ⟨S28x2x2x1x18432, .bf16⟩
  | .hbm, ⟨76, _⟩ => ⟨S28x2x2x16x18432, .bf16⟩
  | .hbm, ⟨77, _⟩ => ⟨S28x2x2x16x18432, .bf16⟩
  | .hbm, ⟨78, _⟩ => ⟨S28x2x32x18432, .bf16⟩
  | .hbm, ⟨79, _⟩ => ⟨S256x1x28x2x1x32, .bf16⟩
  | .hbm, ⟨80, _⟩ => ⟨S256x1x28x2x32, .bf16⟩
  | .hbm, ⟨81, _⟩ => ⟨S256x1x18432, .f32⟩
  | .hbm, ⟨82, _⟩ => ⟨S256x1x18432, .f32⟩
  | .hbm, ⟨83, _⟩ => ⟨S28x2x32x18432, .bf16⟩
  | .hbm, ⟨84, _⟩ => ⟨S_, .bf16⟩
  | .hbm, ⟨85, _⟩ => ⟨S28x2x32x18432, .bf16⟩
  | .hbm, ⟨86, _⟩ => ⟨S28x2x32x18432, .bf16⟩
  | .hbm, ⟨87, _⟩ => ⟨S28x2x2x16x18432, .bf16⟩
  | .hbm, ⟨88, _⟩ => ⟨S28x2x1x2x1x18432, .bf16⟩
  | .hbm, ⟨89, _⟩ => ⟨S28x2x2x1x18432, .bf16⟩
  | .hbm, ⟨90, _⟩ => ⟨S28x2x2x16x18432, .bf16⟩
  | .hbm, ⟨91, _⟩ => ⟨S28x2x2x16x18432, .bf16⟩
  | .hbm, ⟨92, _⟩ => ⟨S28x2x32x18432, .bf16⟩
  | .hbm, ⟨93, _⟩ => ⟨S256x1x28x2x1x32, .bf16⟩
  | .hbm, ⟨94, _⟩ => ⟨S256x1x28x2x32, .bf16⟩
  | .hbm, ⟨95, _⟩ => ⟨S256x1x18432, .f32⟩
  | .hbm, ⟨96, _⟩ => ⟨S256x1x18432, .f32⟩
  | .hbm, ⟨97, _⟩ => ⟨S28x2x32x18432, .bf16⟩
  | .hbm, ⟨98, _⟩ => ⟨S_, .bf16⟩
  | .hbm, ⟨99, _⟩ => ⟨S28x2x32x18432, .bf16⟩
  | .hbm, ⟨100, _⟩ => ⟨S28x2x32x18432, .bf16⟩
  | .hbm, ⟨101, _⟩ => ⟨S28x2x2x16x18432, .bf16⟩
  | .hbm, ⟨102, _⟩ => ⟨S28x2x1x2x1x18432, .bf16⟩
  | .hbm, ⟨103, _⟩ => ⟨S28x2x2x1x18432, .bf16⟩
  | .hbm, ⟨104, _⟩ => ⟨S28x2x2x16x18432, .bf16⟩
  | .hbm, ⟨105, _⟩ => ⟨S28x2x2x16x18432, .bf16⟩
  | .hbm, ⟨106, _⟩ => ⟨S28x2x32x18432, .bf16⟩
  | .hbm, ⟨107, _⟩ => ⟨S256x1x28x2x1x32, .bf16⟩
  | .hbm, ⟨108, _⟩ => ⟨S256x1x28x2x32, .bf16⟩
  | .hbm, ⟨109, _⟩ => ⟨S256x1x18432, .f32⟩
  | .hbm, ⟨110, _⟩ => ⟨S256x1x18432, .f32⟩
  | .hbm, ⟨111, _⟩ => ⟨S28x2x32x18432, .bf16⟩
  | .hbm, ⟨112, _⟩ => ⟨S_, .bf16⟩
  | .hbm, ⟨113, _⟩ => ⟨S28x2x32x18432, .bf16⟩
  | .hbm, ⟨114, _⟩ => ⟨S28x2x32x18432, .bf16⟩
  | .hbm, ⟨115, _⟩ => ⟨S28x2x2x16x18432, .bf16⟩
  | .hbm, ⟨116, _⟩ => ⟨S28x2x1x2x1x18432, .bf16⟩
  | .hbm, ⟨117, _⟩ => ⟨S28x2x2x1x18432, .bf16⟩
  | .hbm, ⟨118, _⟩ => ⟨S28x2x2x16x18432, .bf16⟩
  | .hbm, ⟨119, _⟩ => ⟨S28x2x2x16x18432, .bf16⟩
  | .hbm, ⟨120, _⟩ => ⟨S28x2x32x18432, .bf16⟩
  | .hbm, ⟨121, _⟩ => ⟨S256x1x28x2x1x32, .bf16⟩
  | .hbm, ⟨122, _⟩ => ⟨S256x1x28x2x32, .bf16⟩
  | .hbm, ⟨123, _⟩ => ⟨S256x1x18432, .f32⟩
  | .hbm, ⟨124, _⟩ => ⟨S256x1x18432, .f32⟩
  | .hbm, ⟨125, _⟩ => ⟨S256x1x18432, .bf16⟩
  | .hbm, ⟨126, _⟩ => ⟨S256x18432, .bf16⟩
  | .local _ .vmem, ⟨0, _⟩ => ⟨S28x18432, .i16⟩
  | .local _ .vmem, ⟨1, _⟩ => ⟨S28x18432, .f32⟩
  | _, _ => ⟨S256x1x7168, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_c_8 : Ref sig .tc := ⟨.hbm, 49, rfl⟩
abbrev main_v34 : Ref sig .tc := ⟨.hbm, 50, rfl⟩
abbrev main_v35 : Ref sig .tc := ⟨.hbm, 51, rfl⟩
abbrev main_c_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_10 : Ref sig .tc := ⟨.hbm, 56, rfl⟩
abbrev main_v39 : Ref sig .tc := ⟨.hbm, 57, rfl⟩
abbrev main_v40 : Ref sig .tc := ⟨.hbm, 58, rfl⟩
abbrev main_c_11 : Ref sig .tc := ⟨.hbm, 59, rfl⟩
abbrev main_v41 : Ref sig .tc := ⟨.hbm, 60, rfl⟩
abbrev main_v42 : Ref sig .tc := ⟨.hbm, 61, rfl⟩
abbrev main_c_12 : Ref sig .tc := ⟨.hbm, 62, rfl⟩
abbrev main_v43 : Ref sig .tc := ⟨.hbm, 63, rfl⟩
abbrev main_v44 : Ref sig .tc := ⟨.hbm, 64, rfl⟩
abbrev main_c_13 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_15 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_17 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S28x18432 .i16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S28x18432 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Bytes.lean ====
/-
  The kernel's six-bit codes, byte by byte. The kernel packs four rows of bytes into one 32-bit word, shifts and masks
  whole words, and reads the words back as bytes. Every mask keeps the shifted bits inside their byte, so what it computes
  is one byte function per field, applied to each row.

    `byte_of_word`, `word_byte`   a byte of a word, both ways of the bitcast;
    `kByte`                       the byte function of each of the four fields;
    `qCode`                       the six-bit code of each field, as the reference writes it;
    `kByte_toInt`                 the kernel's byte, read signed, is four times the code less 32.
-/
module

public import proofs.«01_k».proof.Proof.Gen.KernelIdeal.Value
public import Idealize.ShloMosaic.Lib.BitcastFour
public import Idealize.ShloMosaic.Lib.Pointwise

@[expose] public section

set_option maxRecDepth 16384

noncomputable section

namespace Cert.KernelIdeal.Val

open Idealize.ShloMosaic Cert.KernelIdeal Cert.KernelIdeal.Gen

/-- The row of words that holds row `p` of bytes. -/
abbrev wordRow (p : Fin 32) : Fin 8 := ⟨p.val / 4, by omega⟩

/-- Byte `p % 4` of a word. -/
abbrev byteAt (p : Fin 32) (w : BitVec 32) : BitVec 8 := w.extractLsb' (8 * (p.val % 4)) 8

theorem ix2_eq {m n : ℕ} (a : Fin m) (b : Fin n) : ix2 a b = ValueIdx.ix2 a b := by
  funext i; match i with | ⟨0, _⟩ => rfl | ⟨1, _⟩ => rfl

/-- Row `p` of an array of words read as bytes is a byte of the word in row `p / 4`. -/
theorem byte_of_word (y : IVec S8x512 32) (h : (S8x512).Bitcasts 32 S32x512 8) (p : Fin 32) (j : Fin 512) :
    bitcast S32x512 8 y h (ix2 p j) = byteAt p (y (ix2 (wordRow p) j)) := by
  apply BitVec.eq_of_getLsbD_eq
  intro i hi
  rw [bitcast_getLsbD y h _ i hi (by decide), BitVec.getLsbD_extractLsb']
  have hrow : (S32x512).row (ix2 p j) = p.val := rfl
  have e1 : ((S32x512).row (ix2 p j) * 8 + i) / 32 = p.val / 4 := by rw [hrow]; omega
  have e2 : ((S32x512).row (ix2 p j) * 8 + i) % 32 = 8 * (p.val % 4) + i := by rw [hrow]; omega
  rw [h.srcIdx_congr _ e1 _ (fun a ha => by have := p.isLt; match a, ha with | ⟨0, _⟩, _ => (show p.val / 4 < 8; omega)), e2]
  simp only [hi, decide_true, Bool.true_and]
  congr 2
  funext c
  match c with
  | ⟨0, _⟩ => exact Fin.ext (h.srcIdx_row _ _ _ ⟨0, Nat.zero_lt_two⟩ rfl)
  | ⟨1, _⟩ => exact Fin.ext (h.srcIdx_other _ _ _ ⟨1, Nat.one_lt_two⟩ (by decide))

/-- A byte of a word made of four rows of bytes is the row's byte. -/
theorem word_byte (x : IVec S32x512 8) (h : (S32x512).Bitcasts 8 S8x512 32) (p : Fin 32) (j : Fin 512) :
    byteAt p (bitcast S8x512 32 x h (ix2 (wordRow p) j)) = x (ix2 p j) := by
  apply BitVec.eq_of_getLsbD_eq
  intro i hi
  rw [BitVec.getLsbD_extractLsb']
  simp only [hi, decide_true, Bool.true_and]
  rw [ix2_eq, ix2_eq, bitcast_8_32_getLsbD_ix2 x h (wordRow p) j (8 * (p.val % 4) + i) (by omega) p (by show p.val = 4 * (p.val / 4) + _; omega)]
  congr 1; omega

/-! ### Masked shifts stay inside their byte -/

theorem byteAt_or (p : Fin 32) (v w : BitVec 32) : byteAt p (v ||| w) = byteAt p v ||| byteAt p w := by
  apply BitVec.eq_of_getLsbD_eq; intro i hi; simp only [byteAt, BitVec.getLsbD_extractLsb', BitVec.getLsbD_or, hi, decide_true, Bool.true_and]

theorem byteAt_xor (p : Fin 32) (w : BitVec 32) : byteAt p (w ^^^ 0xAAAAAAAA#32) = byteAt p w ^^^ 0xAA#8 := by
  apply BitVec.eq_of_getLsbD_eq; intro i hi
  have hp : p.val % 4 < 4 := Nat.mod_lt _ (by decide)
  simp only [byteAt, BitVec.getLsbD_extractLsb', BitVec.getLsbD_xor]
  generalize p.val % 4 = q at hp
  interval_cases q <;> interval_cases i <;> simp

theorem byteAt_shl2 (p : Fin 32) (w : BitVec 32) :
    byteAt p ((w <<< 2) &&& 0x3C3C3C3C#32) = (byteAt p w <<< 2) &&& 0x3C#8 := by
  apply BitVec.eq_of_getLsbD_eq; intro i hi
  have hp : p.val % 4 < 4 := Nat.mod_lt _ (by decide)
  simp only [byteAt, BitVec.getLsbD_extractLsb', BitVec.getLsbD_and, BitVec.getLsbD_shiftLeft]
  generalize p.val % 4 = q at hp
  interval_cases q <;> interval_cases i <;> simp

theorem byteAt_shr2 (p : Fin 32) (w : BitVec 32) :
    byteAt p ((w.sshiftRight 2) &&& 0x3C3C3C3C#32) = (byteAt p w >>> 2) &&& 0x3C#8 := by
  apply BitVec.eq_of_getLsbD_eq; intro i hi
  have hp : p.val % 4 < 4 := Nat.mod_lt _ (by decide)
  simp only [byteAt, BitVec.getLsbD_extractLsb', BitVec.getLsbD_and, BitVec.getLsbD_ushiftRight, BitVec.getLsbD_sshiftRight]
  generalize p.val % 4 = q at hp
  interval_cases q <;> interval_cases i <;> simp

theorem byteAt_top6 (p : Fin 32) (w : BitVec 32) :
    byteAt p ((w <<< 6) &&& 0xC0C0C0C0#32) = (byteAt p w <<< 6) &&& 0xC0#8 := by
  apply BitVec.eq_of_getLsbD_eq; intro i hi
  have hp : p.val % 4 < 4 := Nat.mod_lt _ (by decide)
  simp only [byteAt, BitVec.getLsbD_extractLsb', BitVec.getLsbD_and, BitVec.getLsbD_shiftLeft]
  generalize p.val % 4 = q at hp
  interval_cases q <;> interval_cases i <;> simp

theorem byteAt_top4 (p : Fin 32) (w : BitVec 32) :
    byteAt p ((w <<< 4) &&& 0xC0C0C0C0#32) = (byteAt p w <<< 4) &&& 0xC0#8 := by
  apply BitVec.eq_of_getLsbD_eq; intro i hi
  have hp : p.val % 4 < 4 := Nat.mod_lt _ (by decide)
  simp only [byteAt, BitVec.getLsbD_extractLsb', BitVec.getLsbD_and, BitVec.getLsbD_shiftLeft]
  generalize p.val % 4 = q at hp
  interval_cases q <;> interval_cases i <;> simp

theorem byteAt_top2 (p : Fin 32) (w : BitVec 32) :
    byteAt p ((w <<< 2) &&& 0xC0C0C0C0#32) = (byteAt p w <<< 2) &&& 0xC0#8 := by
  apply BitVec.eq_of_getLsbD_eq; intro i hi
  have hp : p.val % 4 < 4 := Nat.mod_lt _ (by decide)
  simp only [byteAt, BitVec.getLsbD_extractLsb', BitVec.getLsbD_and, BitVec.getLsbD_shiftLeft]
  generalize p.val % 4 = q at hp
  interval_cases q <;> interval_cases i <;> simp

theorem byteAt_top0 (p : Fin 32) (w : BitVec 32) :
    byteAt p (w &&& 0xC0C0C0C0#32) = byteAt p w &&& 0xC0#8 := by
  apply BitVec.eq_of_getLsbD_eq; intro i hi
  have hp : p.val % 4 < 4 := Nat.mod_lt _ (by decide)
  simp only [byteAt, BitVec.getLsbD_extractLsb', BitVec.getLsbD_and]
  generalize p.val % 4 = q at hp
  interval_cases q <;> interval_cases i <;> simp

/-! ### The four fields -/

/-- The kernel's byte for field `f`, from the byte `lo` that holds the field's nibble and the byte `hi` that holds its top two bits. -/
def kByte : Fin 4 → BitVec 8 → BitVec 8 → BitVec 8
  | 0, lo, hi => ((lo <<< 2) &&& 0x3C#8) ||| (((hi ^^^ 0xAA#8) <<< 6) &&& 0xC0#8)
  | 1, lo, hi => ((lo <<< 2) &&& 0x3C#8) ||| (((hi ^^^ 0xAA#8) <<< 4) &&& 0xC0#8)
  | 2, lo, hi => ((lo >>> 2) &&& 0x3C#8) ||| (((hi ^^^ 0xAA#8) <<< 2) &&& 0xC0#8)
  | 3, lo, hi => ((lo >>> 2) &&& 0x3C#8) ||| ((hi ^^^ 0xAA#8) &&& 0xC0#8)

/-- The six-bit code of field `f`: a nibble of `lo` below, two bits of `hi` above, as 32-bit integers. -/
def qCode : Fin 4 → BitVec 8 → BitVec 8 → BitVec 32
  | 0, lo, hi => (lo.setWidth 32 &&& 15#32) ||| ((hi.setWidth 32 &&& 3#32) <<< 4)
  | 1, lo, hi => (lo.setWidth 32 &&& 15#32) ||| ((((hi.setWidth 32).sshiftRight 2) &&& 3#32) <<< 4)
  | 2, lo, hi => ((lo.setWidth 32).sshiftRight 4) ||| ((((hi.setWidth 32).sshiftRight 4) &&& 3#32) <<< 4)
  | 3, lo, hi => ((lo.setWidth 32).sshiftRight 4) ||| ((((hi.setWidth 32).sshiftRight 6) &&& 3#32) <<< 4)

theorem lo_shl (lo : BitVec 8) : (lo <<< 2) &&& 0x3C#8 = (lo.extractLsb' 0 4).setWidth 8 <<< 2 := by revert lo; decide +kernel
theorem lo_shr (lo : BitVec 8) : (lo >>> 2) &&& 0x3C#8 = (lo.extractLsb' 4 4).setWidth 8 <<< 2 := by revert lo; decide +kernel
theorem lo_low (lo : BitVec 8) : lo.setWidth 32 &&& 15#32 = (lo.extractLsb' 0 4).setWidth 32 := by revert lo; decide +kernel
theorem lo_high (lo : BitVec 8) : (lo.setWidth 32).sshiftRight 4 = (lo.extractLsb' 4 4).setWidth 32 := by revert lo; decide +kernel
theorem hi_k0 (hi : BitVec 8) : ((hi ^^^ 0xAA#8) <<< 6) &&& 0xC0#8 = ((hi.extractLsb' 0 2) ^^^ 2#2).setWidth 8 <<< 6 := by revert hi; decide +kernel
theorem hi_k1 (hi : BitVec 8) : ((hi ^^^ 0xAA#8) <<< 4) &&& 0xC0#8 = ((hi.extractLsb' 2 2) ^^^ 2#2).setWidth 8 <<< 6 := by revert hi; decide +kernel
theorem hi_k2 (hi : BitVec 8) : ((hi ^^^ 0xAA#8) <<< 2) &&& 0xC0#8 = ((hi.extractLsb' 4 2) ^^^ 2#2).setWidth 8 <<< 6 := by revert hi; decide +kernel
theorem hi_k3 (hi : BitVec 8) : (hi ^^^ 0xAA#8) &&& 0xC0#8 = ((hi.extractLsb' 6 2) ^^^ 2#2).setWidth 8 <<< 6 := by revert hi; decide +kernel
theorem hi_q0 (hi : BitVec 8) : hi.setWidth 32 &&& 3#32 = (hi.extractLsb' 0 2).setWidth 32 := by revert hi; decide +kernel
theorem hi_q1 (hi : BitVec 8) : (hi.setWidth 32).sshiftRight 2 &&& 3#32 = (hi.extractLsb' 2 2).setWidth 32 := by revert hi; decide +kernel
theorem hi_q2 (hi : BitVec 8) : (hi.setWidth 32).sshiftRight 4 &&& 3#32 = (hi.extractLsb' 4 2).setWidth 32 := by revert hi; decide +kernel
theorem hi_q3 (hi : BitVec 8) : (hi.setWidth 32).sshiftRight 6 &&& 3#32 = (hi.extractLsb' 6 2).setWidth 32 := by revert hi; decide +kernel

/-- The claim of `kByte_toInt` about a nibble and two top bits. -/
theorem code_toInt (n : BitVec 4) (t : BitVec 2) :
    ((n.setWidth 8 <<< 2) ||| ((t ^^^ 2#2).setWidth 8 <<< 6)).toInt = (4:ℤ) * ((n.setWidth 32 ||| (t.setWidth 32 <<< 4)).toInt - 32) := by
  revert n t; decide +kernel

/-- The kernel's byte, read as a signed number, is four times the code less 32. -/
theorem kByte_toInt (f : Fin 4) (lo hi : BitVec 8) : (kByte f lo hi).toInt = (4:ℤ) * ((qCode f lo hi).toInt - 32) := by
  match f with
  | 0 => rw [kByte, qCode, lo_shl, hi_k0, lo_low, hi_q0, code_toInt]
  | 1 => rw [kByte, qCode, lo_shl, hi_k1, lo_low, hi_q1, code_toInt]
  | 2 => rw [kByte, qCode, lo_shr, hi_k2, lo_high, hi_q2, code_toInt]
  | 3 => rw [kByte, qCode, lo_shr, hi_k3, lo_high, hi_q3, code_toInt]

end Cert.KernelIdeal.Val

end
-- ==== Proof.Half.lean ====
/-
  Reading an f16 bit pattern by integer arithmetic. The kernel takes a 16-bit pattern apart, rebuilds it as an f32
  pattern, and handles subnormals, infinities and the sign by hand. `decode_eq` states that what it computes is the
  extended real the f16 pattern denotes, for every pattern that is not a NaN with its sign bit set.
-/
module

public import proofs.«01_k».proof.Proof.Gen.KernelIdeal.Value
public import Idealize.ShloMosaic.Lib.Pointwise

@[expose] public section

set_option maxRecDepth 16384

noncomputable section

namespace Cert.KernelIdeal.Val

open Idealize.ShloMosaic Cert.KernelIdeal Cert.KernelIdeal.Gen

/-- The pattern's exponent field and significand field, as numbers. -/
def expOf (b : BitVec 16) : ℕ := (b.extractLsb' 10 5).toNat
def manOf (b : BitVec 16) : ℕ := (b.extractLsb' 0 10).toNat

/-! ### The integer side -/

theorem exp_word (b : BitVec 16) : (b.signExtend 32).sshiftRight 10 &&& 31#32 = (b.extractLsb' 10 5).setWidth 32 := by
  apply BitVec.eq_of_getLsbD_eq; intro i hi
  simp only [BitVec.getLsbD_and, BitVec.getLsbD_sshiftRight, BitVec.getLsbD_signExtend, BitVec.getLsbD_setWidth, BitVec.getLsbD_extractLsb']
  interval_cases i <;> simp

theorem man_word (b : BitVec 16) : b.signExtend 32 &&& 1023#32 = (b.extractLsb' 0 10).setWidth 32 := by
  apply BitVec.eq_of_getLsbD_eq; intro i hi
  simp only [BitVec.getLsbD_and, BitVec.getLsbD_signExtend, BitVec.getLsbD_setWidth, BitVec.getLsbD_extractLsb']
  interval_cases i <;> simp

theorem sign_word (b : BitVec 16) : b.signExtend 32 &&& 32768#32 = (b.extractLsb' 15 1).setWidth 32 <<< 15 := by
  apply BitVec.eq_of_getLsbD_eq; intro i hi
  simp only [BitVec.getLsbD_and, BitVec.getLsbD_signExtend, BitVec.getLsbD_shiftLeft, BitVec.getLsbD_setWidth, BitVec.getLsbD_extractLsb']
  interval_cases i <;> simp

theorem mag_word (b : BitVec 16) : b.signExtend 32 &&& 32767#32 = (b.extractLsb' 0 15).setWidth 32 := by
  apply BitVec.eq_of_getLsbD_eq; intro i hi
  simp only [BitVec.getLsbD_and, BitVec.getLsbD_signExtend, BitVec.getLsbD_setWidth, BitVec.getLsbD_extractLsb']
  interval_cases i <;> simp

theorem mag_toNat (b : BitVec 16) : (b.extractLsb' 0 15).toNat = expOf b * 1024 + manOf b := by
  simp only [expOf, manOf, BitVec.extractLsb'_toNat, Nat.shiftRight_eq_div_pow]
  have := b.isLt; omega

/-- An f32 pattern with sign bit clear, from its number: exponent `E`, significand `M`. -/
theorem ieee_f32_of_toNat (w : BitVec 32) (E M : ℕ) (hE : E < 256) (hM : M < 2 ^ 23) (hw : w.toNat = E * 2 ^ 23 + M) :
    Ideal.ofBits .f32 w =
      if E = 255 then (if M = 0 then ⊤ else ⊥)
      else if E = 0 then (((M : ℝ) * (2 : ℝ) ^ (-149 : ℤ) : ℝ) : EReal)
      else ((((2 ^ 23 + M : ℕ) : ℝ) * (2 : ℝ) ^ ((E : ℤ) - 150) : ℝ) : EReal) := by
  have h1 : (w.extractLsb' 31 1 == 1#1) = false := by
    rw [beq_eq_false_iff_ne]; intro h
    have := congrArg BitVec.toNat h
    simp only [BitVec.extractLsb'_toNat, Nat.shiftRight_eq_div_pow, hw] at this
    simp at this; omega
  have h2 : (w.extractLsb' 23 8).toNat = E := by
    simp only [BitVec.extractLsb'_toNat, Nat.shiftRight_eq_div_pow, hw]; omega
  have h3 : (w.extractLsb' 0 23).toNat = M := by
    simp only [BitVec.extractLsb'_toNat, Nat.shiftRight_eq_div_pow, hw]; omega
  show Ideal.ieee 8 23 w = _
  unfold Ideal.ieee
  simp only [Nat.reduceAdd, h1, h2, h3]
  norm_num
  split_ifs <;> congr 3 <;> ring_nf

/-- An f16 pattern, from its three fields. -/
theorem ieee_f16 (b : BitVec 16) :
    Ideal.ofBits .f16 b =
      if expOf b = 31 then (if manOf b = 0 then (if b.extractLsb' 15 1 = 1#1 then ⊥ else ⊤) else ⊥)
      else if expOf b = 0 then (((if b.extractLsb' 15 1 = 1#1 then -1 else 1) * (manOf b : ℝ) * (2 : ℝ) ^ (-24 : ℤ) : ℝ) : EReal)
      else (((if b.extractLsb' 15 1 = 1#1 then -1 else 1) * ((2 ^ 10 + manOf b : ℕ) : ℝ) * (2 : ℝ) ^ ((expOf b : ℤ) - 25) : ℝ) : EReal) := by
  show Ideal.ieee 5 10 b = _
  unfold Ideal.ieee
  simp only [Nat.reduceAdd, expOf, manOf, beq_iff_eq]
  norm_num
  split_ifs <;> first | rfl | (congr 3; ring_nf)

/-- The kernel's decoding of one pattern, on the pattern sign-extended to 32 bits. -/
def magOf (x : BitVec 32) : EReal :=
  Scalar.select (IntOp.cmpi .eq (IntOp.andi (IntOp.shrsi .vector x 10#32) 31#32) 0#32)
    (((IntOp.andi x 1023#32).toInt : ℝ) * Ideal.ofBits .f32 864026624#32)
    (Scalar.select (IntOp.cmpi .eq (IntOp.andi (IntOp.shrsi .vector x 10#32) 31#32) 31#32)
      (Ideal.ofBits .f32 (IntOp.ori (IntOp.shli .vector (IntOp.andi x 1023#32) 13#32) 2139095040#32))
      (Ideal.ofBits .f32 (IntOp.addi (IntOp.shli .vector (IntOp.andi x 32767#32) 13#32) 939524096#32)))

theorem magOf_eq (b : BitVec 16) :
    magOf (b.signExtend 32) =
      if expOf b = 31 then (if manOf b = 0 then ⊤ else ⊥)
      else if expOf b = 0 then (((manOf b : ℝ) * (2 : ℝ) ^ (-24 : ℤ) : ℝ) : EReal)
      else ((((2 ^ 10 + manOf b : ℕ) : ℝ) * (2 : ℝ) ^ ((expOf b : ℤ) - 25) : ℝ) : EReal) := by
  have hE : expOf b < 32 := (b.extractLsb' 10 5).isLt
  have hM : manOf b < 1024 := (b.extractLsb' 0 10).isLt
  have e0 : ∀ n : ℕ, n < 32 → (IntOp.cmpi .eq (IntOp.andi (IntOp.shrsi .vector (b.signExtend 32) 10#32) 31#32) (BitVec.ofNat 32 n)
      = BitVec.ofBool (decide (expOf b = n))) := by
    intro n hn
    show BitVec.ofBool ((b.signExtend 32).sshiftRight 10 &&& 31#32 == BitVec.ofNat 32 n) = _
    rw [exp_word]; congr 1
    rw [Bool.eq_iff_iff, beq_iff_eq, decide_eq_true_iff, BitVec.toNat_eq, BitVec.toNat_setWidth, BitVec.toNat_ofNat,
      Nat.mod_eq_of_lt (lt_of_lt_of_le hE (by decide) : (b.extractLsb' 10 5).toNat < 2 ^ 32), Nat.mod_eq_of_lt (show n < 2 ^ 32 by omega)]
    exact Iff.rfl
  have hman : (IntOp.andi (b.signExtend 32) 1023#32).toInt = (manOf b : ℤ) := by
    show (b.signExtend 32 &&& 1023#32).toInt = _
    have e : ((b.extractLsb' 0 10).setWidth 32).toNat = manOf b := by
      rw [BitVec.toNat_setWidth, Nat.mod_eq_of_lt (lt_of_lt_of_le hM (by decide) : (b.extractLsb' 0 10).toNat < 2 ^ 32)]; rfl
    rw [man_word, BitVec.toInt_eq_toNat_of_lt (by rw [e]; omega), e]
  have hsub : Ideal.ofBits .f32 864026624#32 = (((2 : ℝ) ^ (-24 : ℤ) : ℝ) : EReal) := by
    rw [ieee_f32_of_toNat _ 103 0 (by decide) (by decide) (by decide)]
    norm_num
  have hspec : Ideal.ofBits .f32 (IntOp.ori (IntOp.shli .vector (IntOp.andi (b.signExtend 32) 1023#32) 13#32) 2139095040#32)
      = if manOf b = 0 then ⊤ else ⊥ := by
    rw [ieee_f32_of_toNat _ 255 (manOf b * 2 ^ 13) (by decide) (by omega)]
    · simp
    show (((b.signExtend 32 &&& 1023#32) <<< 13) ||| 2139095040#32).toNat = _
    rw [man_word]
    have : ((((b.extractLsb' 0 10).setWidth 32) <<< 13) ||| 2139095040#32) = ((b.extractLsb' 0 10).setWidth 32) <<< 13 + 2139095040#32 := by
      rw [BitVec.add_eq_or_of_and_eq_zero]
      apply BitVec.eq_of_getLsbD_eq; intro i hi
      simp only [BitVec.getLsbD_and, BitVec.getLsbD_shiftLeft, BitVec.getLsbD_setWidth, BitVec.getLsbD_extractLsb']
      interval_cases i <;> simp
    rw [this, BitVec.toNat_add, BitVec.toNat_shiftLeft, BitVec.toNat_setWidth, Nat.shiftLeft_eq, BitVec.toNat_ofNat]
    show ((manOf b % _ * _) % _ + _) % _ = _
    omega
  have hnorm : expOf b ≠ 0 → Ideal.ofBits .f32 (IntOp.addi (IntOp.shli .vector (IntOp.andi (b.signExtend 32) 32767#32) 13#32) 939524096#32)
      = ((((2 ^ 10 + manOf b : ℕ) : ℝ) * (2 : ℝ) ^ ((expOf b : ℤ) - 25) : ℝ) : EReal) := by
    intro h0
    rw [ieee_f32_of_toNat _ (expOf b + 112) (manOf b * 2 ^ 13) (by omega) (by omega)]
    · rw [if_neg (by omega), if_neg (by omega)]
      congr 1
      have : ((expOf b + 112 : ℕ) : ℤ) - 150 = ((expOf b : ℤ) - 25) - 13 := by push_cast; ring
      rw [this, zpow_sub₀ (by norm_num : (2:ℝ) ≠ 0)]
      push_cast
      norm_num
      ring
    show (((b.signExtend 32 &&& 32767#32) <<< 13) + 939524096#32).toNat = _
    rw [mag_word, BitVec.toNat_add, BitVec.toNat_shiftLeft, BitVec.toNat_setWidth, Nat.shiftLeft_eq, BitVec.toNat_ofNat, mag_toNat]
    omega
  unfold magOf
  rw [e0 0 (by decide), e0 31 (by decide), hman, hsub, hspec]
  unfold Scalar.select
  by_cases h0 : expOf b = 0
  · simp [h0, -EReal.coe_mul]
    rw [EReal.coe_mul, EReal.coe_natCast]
  by_cases h31 : expOf b = 31
  · simp [h31]
  rw [hnorm h0]
  simp [h0, h31]

/-- WHAT THE KERNEL DECODES: the value of the f16 pattern, for every pattern that is not a NaN with its sign bit set. -/
theorem decode_eq (b : BitVec 16) (hb : b.toNat ≤ 64512) :
    Scalar.select (IntOp.cmpi .ne (IntOp.andi (b.signExtend 32) 32768#32) 0#32) (0 - magOf (b.signExtend 32)) (magOf (b.signExtend 32))
      = Ideal.ofBits .f16 b := by
  have hs : IntOp.cmpi .ne (IntOp.andi (b.signExtend 32) 32768#32) 0#32 = BitVec.ofBool (decide (b.extractLsb' 15 1 = 1#1)) := by
    show BitVec.ofBool (b.signExtend 32 &&& 32768#32 != 0#32) = _
    rw [sign_word]
    have : ∀ s : BitVec 1, BitVec.ofBool (s.setWidth 32 <<< 15 != 0#32) = BitVec.ofBool (decide (s = 1#1)) := by decide
    exact this _
  rw [hs, magOf_eq, ieee_f16]
  unfold Scalar.select
  by_cases h : b.extractLsb' 15 1 = 1#1
  · have hx : expOf b = 31 → manOf b = 0 := by
      intro h31
      have h15 := congrArg BitVec.toNat h
      simp only [expOf, manOf, BitVec.extractLsb'_toNat, Nat.shiftRight_eq_div_pow] at h31 h15 ⊢
      have h15' : b.toNat / 2 ^ 15 % 2 ^ 1 = 1 := h15
      omega
    by_cases h31 : expOf b = 31
    · simp [h, h31, hx h31]
    by_cases h0 : expOf b = 0
    · simp [h, h0]
    · simp [h, h0, h31, -EReal.coe_mul, -EReal.coe_add]
      rw [← EReal.coe_neg]; congr 1; ring
  · simp [h]

end Cert.KernelIdeal.Val

end
-- ==== Proof.KernelLoop.lean ====
/-
  The kernel's loop over the superblocks, as plain values. One grid point of the kernel zeroes an accumulator, runs 28
  trips, each adding the product of a 256-column slice of `x` with a 256 x 512 block of dequantised weights, and stores
  the accumulator. The generated frame run states this as lists of stores; the theorems here read the lists back.

    `tripL_eq`   one trip stores one piece: the accumulator it found plus the trip's product;
    `accAt`      the accumulator after `k` trips, by recursion on `k`;
    `out_eq`     what the grid point leaves in the output block: `accAt` after 28 trips, narrowed to bf16.
-/
module

public import proofs.«01_k».proof.Proof.Gen.KernelIdeal.Value
public import Idealize.ShloMosaic.Lib.VecWindow
public import Idealize.ShloMosaic.Lib.Pipeline.Value

@[expose] public section

set_option maxRecDepth 16384

noncomputable section

namespace Cert.KernelIdeal.Val

open Idealize.ShloMosaic Idealize.ShloMosaic.TcCoe Idealize.SL.Sem Cert.KernelIdeal Cert.KernelIdeal.Gen

variable {F : FTy → Type} [FloatOps F]

/-- The weights of one trip, from the four arrays' reads. -/
def wPay (v9 : Vec F S1x1x512 .i16) (v49 : Vec F S1x16x512 .i8) (v56 v59 v62 v144 v147 v150 : Vec F S1x1x32x512 .i8) : FVec F S256x512 .bf16 :=
  k0_pay31 (k0_pay5 (k0_pay4 v9) v49)
    (k0_pay13 (k0_pay5 (k0_pay4 v9) v49) (k0_pay9 v56 v62)) (k0_pay14 (k0_pay5 (k0_pay4 v9) v49) (k0_pay9 v56 v62))
    (k0_pay16 (k0_pay5 (k0_pay4 v9) v49) (k0_pay10 v59 v62)) (k0_pay17 (k0_pay5 (k0_pay4 v9) v49) (k0_pay10 v59 v62))
    (k0_pay19 (k0_pay5 (k0_pay4 v9) v49) (k0_pay8 v62) (k0_pay11 v56)) (k0_pay20 (k0_pay5 (k0_pay4 v9) v49) (k0_pay8 v62) (k0_pay11 v56))
    (k0_pay22 (k0_pay5 (k0_pay4 v9) v49) (k0_pay7 v59) (k0_pay8 v62)) (k0_pay23 (k0_pay5 (k0_pay4 v9) v49) (k0_pay7 v59) (k0_pay8 v62))
    (k0_pay25 v147) (k0_pay26 v150) (k0_pay27 v144 v150) (k0_pay28 v147 v150) (k0_pay29 v144) (k0_pay30 v150) 3233857728#32

theorem tripL_eq (𝒱 : Variants) (c : Dev nD) (bd : Option 𝒱.V) (i : grid0.Coords) (arg1 : Memref sig .tc .vmem S256x7168 .bf16) (harg1 : arg1.IsWhole) (arg2 : Memref sig .tc .vmem S28x2x64x512 .i8) (harg2 : arg2.IsWhole) (arg3 : Memref sig .tc .vmem S28x2x32x512 .i8) (harg3 : arg3.IsWhole) (arg4 : Memref sig .tc .vmem S28x16x512 .i8) (harg4 : arg4.IsWhole) (arg5 : Memref sig .tc .vmem S28x1x512 .i16) (harg5 : arg5.IsWhole) (arg6 : Memref sig .tc .vmem S256x512 .bf16) (harg6 : arg6.IsWhole) (arg7 : Memref sig .tc .vmem S256x512 .f32) (harg7 : arg7.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips) (f_arg7 : BufTy.Contents (Elt F) arg7.view.ty) :
    tripL_k0_t1 (F := F) 𝒱 c bd i arg1 harg1 arg2 harg2 arg3 harg3 arg4 harg4 arg5 harg5 arg6 harg6 arg7 harg7 X_arg1 X_arg2 X_arg3 X_arg4 X_arg5 k f_arg7 =
    [⟨Rect.unit (s := S256x512) ![0, 0] S256x512.size inb_S256x512_S256x512_0_0,
      k0_pay2 (wPay (View.readAt (Elt F) arg5.view (Rect.unit (s := S28x1x512) (k0_off1 k) S1x1x512.size (k0_off1_inb k)).toLoadRect X_arg5)
        (View.readAt (Elt F) arg4.view (Rect.unit (s := S28x16x512) (k0_off2 k) S1x16x512.size (k0_off2_inb k)).toLoadRect X_arg4)
        (View.readAt (Elt F) arg2.view (Rect.unit (s := S28x2x64x512) (k0_off3 k) S1x1x32x512.size (k0_off3_inb k)).toLoadRect X_arg2)
        (View.readAt (Elt F) arg2.view (Rect.unit (s := S28x2x64x512) (k0_off4 k) S1x1x32x512.size (k0_off4_inb k)).toLoadRect X_arg2)
        (View.readAt (Elt F) arg3.view (Rect.unit (s := S28x2x32x512) (k0_off5 k) S1x1x32x512.size (k0_off5_inb k)).toLoadRect X_arg3)
        (View.readAt (Elt F) arg2.view (Rect.unit (s := S28x2x64x512) (k0_off6 k) S1x1x32x512.size (k0_off6_inb k)).toLoadRect X_arg2)
        (View.readAt (Elt F) arg2.view (Rect.unit (s := S28x2x64x512) (k0_off7 k) S1x1x32x512.size (k0_off7_inb k)).toLoadRect X_arg2)
        (View.readAt (Elt F) arg3.view (Rect.unit (s := S28x2x32x512) (k0_off8 k) S1x1x32x512.size (k0_off8_inb k)).toLoadRect X_arg3))
       (View.readAt (Elt F) arg1.view (Rect.unit (s := S256x7168) (k0_off9 k) S256x256.size (k0_off9_inb k)).toLoadRect X_arg1)
       (View.readAt (Elt F) arg7.view (Rect.unit (s := S256x512) ![0, 0] S256x512.size inb_S256x512_S256x512_0_0).toLoadRect f_arg7)⟩] := by
  unfold tripL_k0_t1 trip_k0_t1
  rfl

/-- The weights of trip `k`, from the grid point's four input blocks. -/
def wAt (x1 : Vec F S28x2x64x512 .i8) (x2 : Vec F S28x2x32x512 .i8) (x3 : Vec F S28x16x512 .i8) (x4 : Vec F S28x1x512 .i16)
    (k : Fin k0_t1_loop.trips) : FVec F S256x512 .bf16 :=
  wPay (View.ld x4 (Rect.unit (s := S28x1x512) (k0_off1 k) S1x1x512.size (k0_off1_inb k)))
    (View.ld x3 (Rect.unit (s := S28x16x512) (k0_off2 k) S1x16x512.size (k0_off2_inb k)))
    (View.ld x1 (Rect.unit (s := S28x2x64x512) (k0_off3 k) S1x1x32x512.size (k0_off3_inb k)))
    (View.ld x1 (Rect.unit (s := S28x2x64x512) (k0_off4 k) S1x1x32x512.size (k0_off4_inb k)))
    (View.ld x2 (Rect.unit (s := S28x2x32x512) (k0_off5 k) S1x1x32x512.size (k0_off5_inb k)))
    (View.ld x1 (Rect.unit (s := S28x2x64x512) (k0_off6 k) S1x1x32x512.size (k0_off6_inb k)))
    (View.ld x1 (Rect.unit (s := S28x2x64x512) (k0_off7 k) S1x1x32x512.size (k0_off7_inb k)))
    (View.ld x2 (Rect.unit (s := S28x2x32x512) (k0_off8 k) S1x1x32x512.size (k0_off8_inb k)))

/-- The slice of `x` that trip `k` multiplies: its columns `256 k` to `256 k + 255`. -/
def xAt (x0 : Vec F S256x7168 .bf16) (k : Fin k0_t1_loop.trips) : Vec F S256x256 .bf16 :=
  View.ld x0 (Rect.unit (s := S256x7168) (k0_off9 k) S256x256.size (k0_off9_inb k))

/-- The accumulator after `k` trips: zero, then each trip's product added. -/
def accAt (x0 : Vec F S256x7168 .bf16) (x1 : Vec F S28x2x64x512 .i8) (x2 : Vec F S28x2x32x512 .i8) (x3 : Vec F S28x16x512 .i8)
    (x4 : Vec F S28x1x512 .i16) : (k : ℕ) → k ≤ k0_t1_loop.trips → Vec F S256x512 .f32
  | 0, _ => k0_pay1
  | k + 1, h => k0_pay2 (wAt x1 x2 x3 x4 ⟨k, h⟩) (xAt x0 ⟨k, h⟩) (accAt x0 x1 x2 x3 x4 k (Nat.le_of_succ_le h))

section
variable (c : Dev nD) (i : grid0.Coords) (arg1 : Memref sig .tc .vmem S256x7168 .bf16) (harg1 : arg1.IsWhole) (arg2 : Memref sig .tc .vmem S28x2x64x512 .i8) (harg2 : arg2.IsWhole) (arg3 : Memref sig .tc .vmem S28x2x32x512 .i8) (harg3 : arg3.IsWhole) (arg4 : Memref sig .tc .vmem S28x16x512 .i8) (harg4 : arg4.IsWhole) (arg5 : Memref sig .tc .vmem S28x1x512 .i16) (harg5 : arg5.IsWhole) (arg6 : Memref sig .tc .vmem S256x512 .bf16) (harg6 : arg6.IsWhole) (arg7 : Memref sig .tc .vmem S256x512 .f32) (harg7 : arg7.IsWhole)
  (x0 : Vec F S256x7168 .bf16) (x1 : Vec F S28x2x64x512 .i8) (x2 : Vec F S28x2x32x512 .i8) (x3 : Vec F S28x16x512 .i8) (x4 : Vec F S28x1x512 .i16)

/-- The stores of trip `k`, over whole memrefs holding the grid point's blocks: one store of the whole accumulator. -/
theorem tripL_eq_ld (𝒱 : Variants) (bd : Option 𝒱.V) (k : Fin k0_t1_loop.trips) (f : BufTy.Contents (Elt F) arg7.view.ty) :
    tripL_k0_t1 (F := F) 𝒱 c bd i arg1 harg1 arg2 harg2 arg3 harg3 arg4 harg4 arg5 harg5 arg6 harg6 arg7 harg7
        (harg1.unread x0) (harg2.unread x1) (harg3.unread x2) (harg4.unread x3) (harg5.unread x4) k f =
      [⟨Rect.unit (s := S256x512) ![0, 0] S256x512.size inb_S256x512_S256x512_0_0,
        k0_pay2 (wAt x1 x2 x3 x4 k) (xAt x0 k)
          (View.readAt (Elt F) arg7.view (Rect.unit (s := S256x512) ![0, 0] S256x512.size inb_S256x512_S256x512_0_0).toLoadRect f)⟩] := by
  rw [tripL_eq]
  unfold wAt xAt
  simp only [View.readAt_eq_ld, harg1.read_unread, harg2.read_unread, harg3.read_unread, harg4.read_unread, harg5.read_unread]

/-- The accumulator memref after `k` trips reads `accAt … k`, if it read zero before the loop. -/
theorem acc_read (𝒱 : Variants) (bd : Option 𝒱.V) (G : BufTy.Contents (Elt F) arg7.view.ty)
    (hG : View.readAt (Elt F) arg7.view (Rect.unit (s := S256x512) ![0, 0] S256x512.size inb_S256x512_S256x512_0_0).toLoadRect G = k0_pay1) :
    ∀ (k : ℕ) (h : k ≤ k0_t1_loop.trips),
      View.readAt (Elt F) arg7.view (Rect.unit (s := S256x512) ![0, 0] S256x512.size inb_S256x512_S256x512_0_0).toLoadRect
        (arg7.view.writes (Elt F) G (pb_k0_t1 (F := F) 𝒱 c bd i arg1 harg1 arg2 harg2 arg3 harg3 arg4 harg4 arg5 harg5 arg6 harg6 arg7 harg7
          (harg1.unread x0) (harg2.unread x1) (harg3.unread x2) (harg4.unread x3) (harg5.unread x4) G k)) = accAt x0 x1 x2 x3 x4 k h
  | 0, _ => hG
  | k + 1, h => by
    have e := pb_k0_t1_succ (F := F) 𝒱 c bd i arg1 harg1 arg2 harg2 arg3 harg3 arg4 harg4 arg5 harg5 arg6 harg6 arg7 harg7
          (harg1.unread x0) (harg2.unread x1) (harg3.unread x2) (harg4.unread x3) (harg5.unread x4) G ⟨k, h⟩
    dsimp only at e
    rw [e, tripL_eq_ld, acc_read 𝒱 bd G hG k (Nat.le_of_succ_le h), List.singleton_append]
    exact View.readAt_writes_full arg7.view G inb_S256x512_S256x512_0_0 inb_S256x512_S256x512_0_0 _ _

/-- WHAT ONE GRID POINT LEAVES in the output block: the accumulator after all 28 trips, narrowed to bf16. -/
theorem out_eq :
    out0_A_5 c i arg1 harg1 arg2 harg2 arg3 harg3 arg4 harg4 arg5 harg5 arg6 harg6 arg7 harg7 x0 x1 x2 x3 x4
      = k0_pay3 (accAt x0 x1 x2 x3 x4 k0_t1_loop.trips le_rfl) := by
  unfold out0_A_5 kernelRun0_A
  dsimp only
  refine (View.read_writes_full VO0_5 _ inb_S256x512_S256x512_0_0 _ _).trans (congrArg k0_pay3 ?_)
  unfold kernelRun0_A.sl.v5
  rw [← acc_read c i arg1 harg1 arg2 harg2 arg3 harg3 arg4 harg4 arg5 harg5 arg6 harg6 arg7 harg7 x0 x1 x2 x3 x4 Variants.none none
    (arg7.view.writes (Elt F) arg7.view.junk kernelRun0_A.sl.HS0_1)
    (View.readAt_writes_full arg7.view arg7.view.junk inb_S256x512_S256x512_0_0 inb_S256x512_S256x512_0_0 _ _), ← View.writes_append]
  rfl
end

end Cert.KernelIdeal.Val

end
-- ==== Proof.Weights.lean ====
/-
  The weights one trip of the kernel's loop dequantises, at an index.

    `pieces`, `wPay_eq`   the trip's 256 x 512 block of weights is sixteen pieces of sixteen rows, laid end to end;
    `fieldWord_byte`      the bytes of a piece's code words are the byte functions of Bytes.lean;
    `scale_apply`         the block of scales: the f16 value of `d`, times 1/4, times the sub-block's 8-bit scale;
    `wAt_apply`           a weight: (six-bit code - 32) times the value of `d` times the 8-bit scale.
-/
module

public import proofs.«01_k».proof.Proof.Bytes
public import proofs.«01_k».proof.Proof.Half
public import proofs.«01_k».proof.Proof.KernelLoop
public import Idealize.ShloMosaic.Lib.Pipeline.ValueKit.Tiles

@[expose] public section

set_option maxRecDepth 16384
noncomputable section
namespace Cert.KernelIdeal.Val
open Idealize.ShloMosaic Cert.KernelIdeal Cert.KernelIdeal.Gen

/-- Bytes four rows to a word, as the kernel packs a block of 32 rows. -/
def packed (v : Vec Ideal S1x1x32x512 .i8) : IVec S8x512 32 :=
  bitcast S8x512 32 (shapeCast S32x512 v shapeCasts_S1x1x32x512_S32x512) bitcasts_S32x512_w8_S8x512_w32

/-- The packed top bits, each byte's field signs flipped. -/
def flipped (v : Vec Ideal S1x1x32x512 .i8) : IVec S8x512 32 := xori (packed v) (broadcast S8x512 2863311530#32)

/-- The words of field 0, 1, 2, 3. -/
def fieldWord : Fin 4 → (lo hi : Vec Ideal S1x1x32x512 .i8) → IVec S8x512 32
  | 0, lo, hi => ori (andi (shli (packed lo) (broadcast S8x512 2#32)) (broadcast S8x512 1010580540#32)) (andi (shli (flipped hi) (broadcast S8x512 6#32)) (broadcast S8x512 3233857728#32))
  | 1, lo, hi => ori (andi (shli (packed lo) (broadcast S8x512 2#32)) (broadcast S8x512 1010580540#32)) (andi (shli (flipped hi) (broadcast S8x512 4#32)) (broadcast S8x512 3233857728#32))
  | 2, lo, hi => ori (andi (shrsi (packed lo) (broadcast S8x512 2#32)) (broadcast S8x512 1010580540#32)) (andi (shli (flipped hi) (broadcast S8x512 2#32)) (broadcast S8x512 3233857728#32))
  | 3, lo, hi => ori (andi (shrsi (packed lo) (broadcast S8x512 2#32)) (broadcast S8x512 1010580540#32)) (andi (flipped hi) (broadcast S8x512 3233857728#32))

/-- Sixteen rows of weights: rows 0 to 15 (`first`) or 16 to 31 of a field's bytes as numbers, times row `e` of the block's scales. -/
def rowsOf (eff : FVec Ideal S16x512 .bf16) (y : IVec S8x512 32) (o : ℕ) (ho : (S32x512).Slices ![o, 0] S16x512) (e : ℕ) (he : (S16x512).Slices ![e, 0] S1x512) : FVec Ideal S16x512 .bf16 :=
  mulf (extractStridedSlice S16x512 ![o, 0] (sitofp (F := Ideal) .bf16 (bitcast S32x512 8 y bitcasts_S8x512_w32_S32x512_w8)) ho)
    (broadcastTo S16x512 (extractStridedSlice S1x512 ![e, 0] eff he) broadcasts_S1x512_S16x512)

/-- The sixteen pieces of a trip's weights, in the order the kernel lays them end to end. -/
def pieces (eff : FVec Ideal S16x512 .bf16) (v56 v59 v62 v144 v147 v150 : Vec Ideal S1x1x32x512 .i8) : Fin 16 → FVec Ideal S16x512 .bf16 :=
  ![rowsOf eff (fieldWord 0 v56 v62) 0 slices_S32x512_o0_0_S16x512 0 slices_S16x512_o0_0_S1x512,
    rowsOf eff (fieldWord 0 v56 v62) 16 slices_S32x512_o16_0_S16x512 1 slices_S16x512_o1_0_S1x512,
    rowsOf eff (fieldWord 1 v59 v62) 0 slices_S32x512_o0_0_S16x512 2 slices_S16x512_o2_0_S1x512,
    rowsOf eff (fieldWord 1 v59 v62) 16 slices_S32x512_o16_0_S16x512 3 slices_S16x512_o3_0_S1x512,
    rowsOf eff (fieldWord 2 v56 v62) 0 slices_S32x512_o0_0_S16x512 4 slices_S16x512_o4_0_S1x512,
    rowsOf eff (fieldWord 2 v56 v62) 16 slices_S32x512_o16_0_S16x512 5 slices_S16x512_o5_0_S1x512,
    rowsOf eff (fieldWord 3 v59 v62) 0 slices_S32x512_o0_0_S16x512 6 slices_S16x512_o6_0_S1x512,
    rowsOf eff (fieldWord 3 v59 v62) 16 slices_S32x512_o16_0_S16x512 7 slices_S16x512_o7_0_S1x512,
    rowsOf eff (fieldWord 0 v144 v150) 0 slices_S32x512_o0_0_S16x512 8 slices_S16x512_o8_0_S1x512,
    rowsOf eff (fieldWord 0 v144 v150) 16 slices_S32x512_o16_0_S16x512 9 slices_S16x512_o9_0_S1x512,
    rowsOf eff (fieldWord 1 v147 v150) 0 slices_S32x512_o0_0_S16x512 10 slices_S16x512_o10_0_S1x512,
    rowsOf eff (fieldWord 1 v147 v150) 16 slices_S32x512_o16_0_S16x512 11 slices_S16x512_o11_0_S1x512,
    rowsOf eff (fieldWord 2 v144 v150) 0 slices_S32x512_o0_0_S16x512 12 slices_S16x512_o12_0_S1x512,
    rowsOf eff (fieldWord 2 v144 v150) 16 slices_S32x512_o16_0_S16x512 13 slices_S16x512_o13_0_S1x512,
    rowsOf eff (fieldWord 3 v147 v150) 0 slices_S32x512_o0_0_S16x512 14 slices_S16x512_o14_0_S1x512,
    rowsOf eff (fieldWord 3 v147 v150) 16 slices_S32x512_o16_0_S16x512 15 slices_S16x512_o15_0_S1x512]

/-- The weights of one trip are the sixteen pieces laid end to end. -/
theorem wPay_eq (v9 : Vec Ideal S1x1x512 .i16) (v49 : Vec Ideal S1x16x512 .i8) (v56 v59 v62 v144 v147 v150 : Vec Ideal S1x1x32x512 .i8)
    (h : Shape.Concatenates ((List.ofFn fun n : Fin 16 => (⟨S16x512, pieces (k0_pay5 (k0_pay4 v9) v49) v56 v59 v62 v144 v147 v150 n⟩ : (s : Shape) × (s.Idx → EReal))).map (·.1)) S256x512 0) :
    wPay v9 v49 v56 v59 v62 v144 v147 v150 =
      concatenate S256x512 0 (List.ofFn fun n : Fin 16 => (⟨S16x512, pieces (k0_pay5 (k0_pay4 v9) v49) v56 v59 v62 v144 v147 v150 n⟩ : (s : Shape) × (s.Idx → EReal))) h := by
  unfold wPay
  generalize k0_pay5 (F := Ideal) (k0_pay4 v9) v49 = eff
  rfl

theorem wPay_apply (v9 : Vec Ideal S1x1x512 .i16) (v49 : Vec Ideal S1x16x512 .i8) (v56 v59 v62 v144 v147 v150 : Vec Ideal S1x1x32x512 .i8) (n : Fin 16) (r : Fin 16) (j : Fin 512) :
    wPay v9 v49 v56 v59 v62 v144 v147 v150 (ix2 ⟨16 * n.val + r.val, by omega⟩ j) =
      pieces (k0_pay5 (k0_pay4 v9) v49) v56 v59 v62 v144 v147 v150 n (ix2 r j) := by
  rw [wPay_eq _ _ _ _ _ _ _ _ (by simp only [List.map_ofFn, Function.comp_def]; decide)]
  exact concatenate_ofFn_apply (t := S256x512) (s₁ := S16x512) (0 : Fin 2) _ _ rfl 16 rfl (ix2 ⟨16 * n.val + r.val, by omega⟩ j) n
    (by show (16 * n.val + r.val) / 16 = n.val; omega) (ix2 r j)
    (by show r.val = (16 * n.val + r.val) % 16; omega)
    (fun b hb => by match b, hb with | ⟨0, _⟩, hb => exact absurd rfl hb | ⟨1, _⟩, _ => rfl)

theorem packed_byte (v : Vec Ideal S1x1x32x512 .i8) (p : Fin 32) (j : Fin 512) :
    byteAt p (packed v (ix2 (wordRow p) j)) = v (ix4 0 0 p j) := by
  unfold packed
  rw [word_byte]
  pointwise

theorem fieldWord_byte (f : Fin 4) (lo hi : Vec Ideal S1x1x32x512 .i8) (p : Fin 32) (j : Fin 512) :
    byteAt p (fieldWord f lo hi (ix2 (wordRow p) j)) = kByte f (lo (ix4 0 0 p j)) (hi (ix4 0 0 p j)) := by
  rw [← packed_byte lo, ← packed_byte hi]
  match f with
  | 0 =>
    show byteAt p ((packed lo (ix2 (wordRow p) j) <<< 2) &&& 0x3C3C3C3C#32 ||| ((packed hi (ix2 (wordRow p) j) ^^^ 0xAAAAAAAA#32) <<< 6) &&& 0xC0C0C0C0#32) = _
    rw [byteAt_or, byteAt_shl2, byteAt_top6, byteAt_xor]; rfl
  | 1 =>
    show byteAt p ((packed lo (ix2 (wordRow p) j) <<< 2) &&& 0x3C3C3C3C#32 ||| ((packed hi (ix2 (wordRow p) j) ^^^ 0xAAAAAAAA#32) <<< 4) &&& 0xC0C0C0C0#32) = _
    rw [byteAt_or, byteAt_shl2, byteAt_top4, byteAt_xor]; rfl
  | 2 =>
    show byteAt p ((packed lo (ix2 (wordRow p) j)).sshiftRight 2 &&& 0x3C3C3C3C#32 ||| ((packed hi (ix2 (wordRow p) j) ^^^ 0xAAAAAAAA#32) <<< 2) &&& 0xC0C0C0C0#32) = _
    rw [byteAt_or, byteAt_shr2, byteAt_top2, byteAt_xor]; rfl
  | 3 =>
    show byteAt p ((packed lo (ix2 (wordRow p) j)).sshiftRight 2 &&& 0x3C3C3C3C#32 ||| (packed hi (ix2 (wordRow p) j) ^^^ 0xAAAAAAAA#32) &&& 0xC0C0C0C0#32) = _
    rw [byteAt_or, byteAt_shr2, byteAt_top0, byteAt_xor]; rfl

theorem rowsOf_apply (eff : FVec Ideal S16x512 .bf16) (f : Fin 4) (lo hi : Vec Ideal S1x1x32x512 .i8) (o : ℕ) (ho : (S32x512).Slices ![o, 0] S16x512) (e : ℕ) (he : (S16x512).Slices ![e, 0] S1x512)
    (r : Fin 16) (j : Fin 512) (p : Fin 32) (hp : p.val = o + r.val) (n : Fin 16) (hn : n.val = e) :
    rowsOf eff (fieldWord f lo hi) o ho e he (ix2 r j) = (((kByte f (lo (ix4 0 0 p j)) (hi (ix4 0 0 p j))).toInt : ℝ) : EReal) * eff (ix2 n j) := by
  rw [← fieldWord_byte, ← byte_of_word _ bitcasts_S8x512_w32_S32x512_w8]
  subst hn
  obtain ⟨p, hp'⟩ := p
  obtain rfl : p = o + r.val := hp
  unfold rowsOf
  generalize bitcast S32x512 8 (fieldWord f lo hi) bitcasts_S8x512_w32_S32x512_w8 = B
  pointwise
  rfl

/-- The block of scales of one trip at row `a`: `d`'s value times 1/4, times the sub-block's scale. -/
theorem scale_apply (v9 : Vec Ideal S1x1x512 .i16) (v49 : Vec Ideal S1x16x512 .i8) (a : Fin 16) (j : Fin 512) (hb : (v9 (ix3 0 0 j)).toNat ≤ 64512) :
    k0_pay5 (F := Ideal) (k0_pay4 v9) v49 (ix2 a j) =
      (Ideal.ofBits .f16 (v9 (ix3 0 0 j)) * Ideal.ofBits .f32 1048576000#32) * (((v49 (ix3 0 a j)).toInt : ℝ) : EReal) := by
  have h4 : k0_pay4 (F := Ideal) v9 (ix2 0 j) = Ideal.ofBits .f16 (v9 (ix3 0 0 j)) * Ideal.ofBits .f32 1048576000#32 := by
    rw [← decode_eq _ hb]
    pointwise [k0_pay4]
    rfl
  rw [← h4]
  generalize k0_pay4 (F := Ideal) v9 = v47
  pointwise [k0_pay5]
  rfl

/-- One weight, as a number: the six-bit code less 32, times the value of `d` times the sub-block's scale. -/
def weight (f : Fin 4) (lo hi : BitVec 8) (s : BitVec 8) (d : BitVec 16) : EReal :=
  ((((qCode f lo hi).toInt - 32 : ℤ) : ℝ) : EReal) * (Ideal.ofBits .f16 d * ((s.toInt : ℝ) : EReal))

theorem quarter : Ideal.ofBits .f32 1048576000#32 = (((1 / 4 : ℝ)) : EReal) := by
  rw [ieee_f32_of_toNat _ 125 0 (by decide) (by decide) (by decide)]
  norm_num

/-- Four times the code and a quarter of the scale is the code and the scale. -/
theorem weight_eq (f : Fin 4) (lo hi : BitVec 8) (s : BitVec 8) (d : BitVec 16) :
    (((kByte f lo hi).toInt : ℝ) : EReal) * ((Ideal.ofBits .f16 d * Ideal.ofBits .f32 1048576000#32) * ((s.toInt : ℝ) : EReal)) = weight f lo hi s d := by
  unfold weight
  rw [kByte_toInt, quarter]
  generalize (qCode f lo hi).toInt - 32 = z
  generalize Ideal.ofBits .f16 d = D
  rw [show (((4 * z : ℤ) : ℝ)) = (z : ℝ) * 4 by push_cast; ring, EReal.coe_mul, mul_comm D, mul_assoc, mul_assoc (((1 / 4 : ℝ)) : EReal),
    ← mul_assoc ((4 : ℝ) : EReal), ← EReal.coe_mul]
  norm_num

/-! ### What a trip loads, at an index -/

theorem ld_d (x4 : Vec Ideal S28x1x512 .i16) (k : Fin k0_t1_loop.trips) (q : Fin 28) (hq : q.val = k.val) (j : Fin 512) :
    View.ld x4 (Rect.unit (s := S28x1x512) (k0_off1 k) S1x1x512.size (k0_off1_inb k)) (ix3 0 0 j) = x4 (ix3 q 0 j) := by
  refine View.ld_unit_apply_of x4 _ _ _ _ _ fun a => ?_
  refine Eq.trans ?_ (congrArg (fun n : ℕ => n + ((ix3 0 0 j : S1x1x512.Idx) a).val) (congrFun (k0_off1_eq k) a).symm)
  match a with | ⟨0, _⟩ => exact hq | ⟨1, _⟩ => rfl | ⟨2, _⟩ => exact (Nat.zero_add _).symm

theorem ld_sc (x3 : Vec Ideal S28x16x512 .i8) (k : Fin k0_t1_loop.trips) (q : Fin 28) (hq : q.val = k.val) (p : Fin 16) (j : Fin 512) :
    View.ld x3 (Rect.unit (s := S28x16x512) (k0_off2 k) S1x16x512.size (k0_off2_inb k)) (ix3 0 p j) = x3 (ix3 q p j) := by
  refine View.ld_unit_apply_of x3 _ _ _ _ _ fun a => ?_
  refine Eq.trans ?_ (congrArg (fun n : ℕ => n + ((ix3 0 p j : S1x16x512.Idx) a).val) (congrFun (k0_off2_eq k) a).symm)
  match a with | ⟨0, _⟩ => exact hq | ⟨1, _⟩ => exact (Nat.zero_add _).symm | ⟨2, _⟩ => exact (Nat.zero_add _).symm

theorem ld_lo00 (x1 : Vec Ideal S28x2x64x512 .i8) (k : Fin k0_t1_loop.trips) (q : Fin 28) (hq : q.val = k.val) (p : Fin 32) (j : Fin 512) :
    View.ld x1 (Rect.unit (s := S28x2x64x512) (k0_off3 k) S1x1x32x512.size (k0_off3_inb k)) (ix4 0 0 p j) = x1 (ix4 q 0 ⟨p.val, by omega⟩ j) := by
  refine View.ld_unit_apply_of x1 _ _ _ _ _ fun a => ?_
  refine Eq.trans ?_ (congrArg (fun n : ℕ => n + ((ix4 0 0 p j : S1x1x32x512.Idx) a).val) (congrFun (k0_off3_eq k) a).symm)
  match a with | ⟨0, _⟩ => exact hq | ⟨1, _⟩ => rfl | ⟨2, _⟩ => exact (Nat.zero_add _).symm | ⟨3, _⟩ => exact (Nat.zero_add _).symm

theorem ld_lo01 (x1 : Vec Ideal S28x2x64x512 .i8) (k : Fin k0_t1_loop.trips) (q : Fin 28) (hq : q.val = k.val) (p : Fin 32) (j : Fin 512) :
    View.ld x1 (Rect.unit (s := S28x2x64x512) (k0_off4 k) S1x1x32x512.size (k0_off4_inb k)) (ix4 0 0 p j) = x1 (ix4 q 0 ⟨32 + p.val, by omega⟩ j) := by
  refine View.ld_unit_apply_of x1 _ _ _ _ _ fun a => ?_
  refine Eq.trans ?_ (congrArg (fun n : ℕ => n + ((ix4 0 0 p j : S1x1x32x512.Idx) a).val) (congrFun (k0_off4_eq k) a).symm)
  match a with | ⟨0, _⟩ => exact hq | ⟨1, _⟩ => rfl | ⟨2, _⟩ => rfl | ⟨3, _⟩ => exact (Nat.zero_add _).symm

theorem ld_hi0 (x2 : Vec Ideal S28x2x32x512 .i8) (k : Fin k0_t1_loop.trips) (q : Fin 28) (hq : q.val = k.val) (p : Fin 32) (j : Fin 512) :
    View.ld x2 (Rect.unit (s := S28x2x32x512) (k0_off5 k) S1x1x32x512.size (k0_off5_inb k)) (ix4 0 0 p j) = x2 (ix4 q 0 p j) := by
  refine View.ld_unit_apply_of x2 _ _ _ _ _ fun a => ?_
  refine Eq.trans ?_ (congrArg (fun n : ℕ => n + ((ix4 0 0 p j : S1x1x32x512.Idx) a).val) (congrFun (k0_off5_eq k) a).symm)
  match a with | ⟨0, _⟩ => exact hq | ⟨1, _⟩ => rfl | ⟨2, _⟩ => exact (Nat.zero_add _).symm | ⟨3, _⟩ => exact (Nat.zero_add _).symm

theorem ld_lo10 (x1 : Vec Ideal S28x2x64x512 .i8) (k : Fin k0_t1_loop.trips) (q : Fin 28) (hq : q.val = k.val) (p : Fin 32) (j : Fin 512) :
    View.ld x1 (Rect.unit (s := S28x2x64x512) (k0_off6 k) S1x1x32x512.size (k0_off6_inb k)) (ix4 0 0 p j) = x1 (ix4 q 1 ⟨p.val, by omega⟩ j) := by
  refine View.ld_unit_apply_of x1 _ _ _ _ _ fun a => ?_
  refine Eq.trans ?_ (congrArg (fun n : ℕ => n + ((ix4 0 0 p j : S1x1x32x512.Idx) a).val) (congrFun (k0_off6_eq k) a).symm)
  match a with | ⟨0, _⟩ => exact hq | ⟨1, _⟩ => rfl | ⟨2, _⟩ => exact (Nat.zero_add _).symm | ⟨3, _⟩ => exact (Nat.zero_add _).symm

theorem ld_lo11 (x1 : Vec Ideal S28x2x64x512 .i8) (k : Fin k0_t1_loop.trips) (q : Fin 28) (hq : q.val = k.val) (p : Fin 32) (j : Fin 512) :
    View.ld x1 (Rect.unit (s := S28x2x64x512) (k0_off7 k) S1x1x32x512.size (k0_off7_inb k)) (ix4 0 0 p j) = x1 (ix4 q 1 ⟨32 + p.val, by omega⟩ j) := by
  refine View.ld_unit_apply_of x1 _ _ _ _ _ fun a => ?_
  refine Eq.trans ?_ (congrArg (fun n : ℕ => n + ((ix4 0 0 p j : S1x1x32x512.Idx) a).val) (congrFun (k0_off7_eq k) a).symm)
  match a with | ⟨0, _⟩ => exact hq | ⟨1, _⟩ => rfl | ⟨2, _⟩ => rfl | ⟨3, _⟩ => exact (Nat.zero_add _).symm

theorem ld_hi1 (x2 : Vec Ideal S28x2x32x512 .i8) (k : Fin k0_t1_loop.trips) (q : Fin 28) (hq : q.val = k.val) (p : Fin 32) (j : Fin 512) :
    View.ld x2 (Rect.unit (s := S28x2x32x512) (k0_off8 k) S1x1x32x512.size (k0_off8_inb k)) (ix4 0 0 p j) = x2 (ix4 q 1 p j) := by
  refine View.ld_unit_apply_of x2 _ _ _ _ _ fun a => ?_
  refine Eq.trans ?_ (congrArg (fun n : ℕ => n + ((ix4 0 0 p j : S1x1x32x512.Idx) a).val) (congrFun (k0_off8_eq k) a).symm)
  match a with | ⟨0, _⟩ => exact hq | ⟨1, _⟩ => rfl | ⟨2, _⟩ => exact (Nat.zero_add _).symm | ⟨3, _⟩ => exact (Nat.zero_add _).symm

/-- Row `r` of piece `8 h + 2 f + half`: byte row `16 half + r` of field `f`, from the arrays that hold half-block `h`. -/
theorem pieces_apply (eff : FVec Ideal S16x512 .bf16) (v56 v59 v62 v144 v147 v150 : Vec Ideal S1x1x32x512 .i8) (h : Fin 2) (f : Fin 4) (half : Fin 2) (r : Fin 16) (j : Fin 512) :
    pieces eff v56 v59 v62 v144 v147 v150 ⟨8 * h.val + 2 * f.val + half.val, by omega⟩ (ix2 r j) =
      (((kByte f ((![![v56, v59, v56, v59], ![v144, v147, v144, v147]] h f) (ix4 0 0 ⟨16 * half.val + r.val, by omega⟩ j))
        ((![v62, v150] h) (ix4 0 0 ⟨16 * half.val + r.val, by omega⟩ j))).toInt : ℝ) : EReal) * eff (ix2 ⟨8 * h.val + 2 * f.val + half.val, by omega⟩ j) := by
  fin_cases h <;> fin_cases f <;> fin_cases half
  · exact rowsOf_apply eff 0 v56 v62 0 _ 0 _ r j ⟨16 * 0 + r.val, by omega⟩ (by show 16 * 0 + r.val = 0 + r.val; omega) 0 rfl
  · exact rowsOf_apply eff 0 v56 v62 16 _ 1 _ r j ⟨16 * 1 + r.val, by omega⟩ (by show 16 * 1 + r.val = 16 + r.val; omega) 1 rfl
  · exact rowsOf_apply eff 1 v59 v62 0 _ 2 _ r j ⟨16 * 0 + r.val, by omega⟩ (by show 16 * 0 + r.val = 0 + r.val; omega) 2 rfl
  · exact rowsOf_apply eff 1 v59 v62 16 _ 3 _ r j ⟨16 * 1 + r.val, by omega⟩ (by show 16 * 1 + r.val = 16 + r.val; omega) 3 rfl
  · exact rowsOf_apply eff 2 v56 v62 0 _ 4 _ r j ⟨16 * 0 + r.val, by omega⟩ (by show 16 * 0 + r.val = 0 + r.val; omega) 4 rfl
  · exact rowsOf_apply eff 2 v56 v62 16 _ 5 _ r j ⟨16 * 1 + r.val, by omega⟩ (by show 16 * 1 + r.val = 16 + r.val; omega) 5 rfl
  · exact rowsOf_apply eff 3 v59 v62 0 _ 6 _ r j ⟨16 * 0 + r.val, by omega⟩ (by show 16 * 0 + r.val = 0 + r.val; omega) 6 rfl
  · exact rowsOf_apply eff 3 v59 v62 16 _ 7 _ r j ⟨16 * 1 + r.val, by omega⟩ (by show 16 * 1 + r.val = 16 + r.val; omega) 7 rfl
  · exact rowsOf_apply eff 0 v144 v150 0 _ 8 _ r j ⟨16 * 0 + r.val, by omega⟩ (by show 16 * 0 + r.val = 0 + r.val; omega) 8 rfl
  · exact rowsOf_apply eff 0 v144 v150 16 _ 9 _ r j ⟨16 * 1 + r.val, by omega⟩ (by show 16 * 1 + r.val = 16 + r.val; omega) 9 rfl
  · exact rowsOf_apply eff 1 v147 v150 0 _ 10 _ r j ⟨16 * 0 + r.val, by omega⟩ (by show 16 * 0 + r.val = 0 + r.val; omega) 10 rfl
  · exact rowsOf_apply eff 1 v147 v150 16 _ 11 _ r j ⟨16 * 1 + r.val, by omega⟩ (by show 16 * 1 + r.val = 16 + r.val; omega) 11 rfl
  · exact rowsOf_apply eff 2 v144 v150 0 _ 12 _ r j ⟨16 * 0 + r.val, by omega⟩ (by show 16 * 0 + r.val = 0 + r.val; omega) 12 rfl
  · exact rowsOf_apply eff 2 v144 v150 16 _ 13 _ r j ⟨16 * 1 + r.val, by omega⟩ (by show 16 * 1 + r.val = 16 + r.val; omega) 13 rfl
  · exact rowsOf_apply eff 3 v147 v150 0 _ 14 _ r j ⟨16 * 0 + r.val, by omega⟩ (by show 16 * 0 + r.val = 0 + r.val; omega) 14 rfl
  · exact rowsOf_apply eff 3 v147 v150 16 _ 15 _ r j ⟨16 * 1 + r.val, by omega⟩ (by show 16 * 1 + r.val = 16 + r.val; omega) 15 rfl

/-- Row `128 h + 32 f + 16 half + r` of a trip's weights, over what the trip loaded. -/
theorem wPay_weight (v9 : Vec Ideal S1x1x512 .i16) (v49 : Vec Ideal S1x16x512 .i8) (v56 v59 v62 v144 v147 v150 : Vec Ideal S1x1x32x512 .i8)
    (h : Fin 2) (f : Fin 4) (half : Fin 2) (r : Fin 16) (j : Fin 512) (hb : (v9 (ix3 0 0 j)).toNat ≤ 64512) :
    wPay v9 v49 v56 v59 v62 v144 v147 v150 (ix2 ⟨16 * (8 * h.val + 2 * f.val + half.val) + r.val, by omega⟩ j) =
      weight f ((![![v56, v59, v56, v59], ![v144, v147, v144, v147]] h f) (ix4 0 0 ⟨16 * half.val + r.val, by omega⟩ j))
        ((![v62, v150] h) (ix4 0 0 ⟨16 * half.val + r.val, by omega⟩ j)) (v49 (ix3 0 ⟨8 * h.val + 2 * f.val + half.val, by omega⟩ j)) (v9 (ix3 0 0 j)) := by
  rw [← weight_eq, ← scale_apply v9 v49 _ j hb, ← pieces_apply]
  exact wPay_apply _ _ _ _ _ _ _ _ ⟨8 * h.val + 2 * f.val + half.val, by omega⟩ r j

/-- Row `128 h + 32 f + 16 half + r` of a trip's weights, over the four arrays' blocks. -/
theorem wAt_apply (x1 : Vec Ideal S28x2x64x512 .i8) (x2 : Vec Ideal S28x2x32x512 .i8) (x3 : Vec Ideal S28x16x512 .i8) (x4 : Vec Ideal S28x1x512 .i16)
    (k : Fin k0_t1_loop.trips) (q : Fin 28) (hq : q.val = k.val) (h : Fin 2) (f : Fin 4) (half : Fin 2) (r : Fin 16) (j : Fin 512) (hb : (x4 (ix3 q 0 j)).toNat ≤ 64512) :
    wAt x1 x2 x3 x4 k (ix2 ⟨16 * (8 * h.val + 2 * f.val + half.val) + r.val, by omega⟩ j) =
      weight f (x1 (ix4 q h ⟨32 * (f.val % 2) + (16 * half.val + r.val), by omega⟩ j)) (x2 (ix4 q h ⟨16 * half.val + r.val, by omega⟩ j))
        (x3 (ix3 q ⟨8 * h.val + 2 * f.val + half.val, by omega⟩ j)) (x4 (ix3 q 0 j)) := by
  rw [← ld_d x4 k q hq j] at hb
  rw [← ld_d x4 k q hq j, ← ld_sc x3 k q hq]
  unfold wAt
  rw [wPay_weight _ _ _ _ _ _ _ _ h f half r j hb]
  have h1 := fun p => ld_lo00 x1 k q hq p j
  have h2 := fun p => ld_lo01 x1 k q hq p j
  have h3 := fun p => ld_hi0 x2 k q hq p j
  have h4 := fun p => ld_lo10 x1 k q hq p j
  have h5 := fun p => ld_lo11 x1 k q hq p j
  have h6 := fun p => ld_hi1 x2 k q hq p j
  revert h1 h2 h3 h4 h5 h6
  generalize View.ld x1 (Rect.unit (s := S28x2x64x512) (k0_off3 k) S1x1x32x512.size (k0_off3_inb k)) = v56
  generalize View.ld x1 (Rect.unit (s := S28x2x64x512) (k0_off4 k) S1x1x32x512.size (k0_off4_inb k)) = v59
  generalize View.ld x2 (Rect.unit (s := S28x2x32x512) (k0_off5 k) S1x1x32x512.size (k0_off5_inb k)) = v62
  generalize View.ld x1 (Rect.unit (s := S28x2x64x512) (k0_off6 k) S1x1x32x512.size (k0_off6_inb k)) = v144
  generalize View.ld x1 (Rect.unit (s := S28x2x64x512) (k0_off7 k) S1x1x32x512.size (k0_off7_inb k)) = v147
  generalize View.ld x2 (Rect.unit (s := S28x2x32x512) (k0_off8 k) S1x1x32x512.size (k0_off8_inb k)) = v150
  intro h1 h2 h3 h4 h5 h6
  congr 1
  · fin_cases h <;> fin_cases f
    · exact (h1 _).trans (congrArg (fun p => x1 (ix4 q 0 p j)) (Fin.ext (Nat.zero_add _).symm))
    · exact h2 _
    · exact (h1 _).trans (congrArg (fun p => x1 (ix4 q 0 p j)) (Fin.ext (Nat.zero_add _).symm))
    · exact h2 _
    · exact (h4 _).trans (congrArg (fun p => x1 (ix4 q 1 p j)) (Fin.ext (Nat.zero_add _).symm))
    · exact h5 _
    · exact (h4 _).trans (congrArg (fun p => x1 (ix4 q 1 p j)) (Fin.ext (Nat.zero_add _).symm))
    · exact h5 _
  · fin_cases h
    · exact h3 _
    · exact h6 _

end Cert.KernelIdeal.Val

end
-- ==== Proof.Block.lean ====
/-
  What one grid point of the kernel computes, at an element: the sum over the 28 superblocks, their two halves, their
  four fields and a field's 32 rows of an entry of `x` times a weight.
-/
module

public import proofs.«01_k».proof.Proof.Weights

@[expose] public section

set_option maxRecDepth 16384

noncomputable section

namespace Cert.KernelIdeal.Val

open Idealize.ShloMosaic Cert.KernelIdeal Cert.KernelIdeal.Gen

theorem trips_eq : k0_t1_loop.trips = 28 := by decide +kernel

/-- A weight by half-block `h`, field `f` and the field's row `l`: row `128 h + 32 f + l` of the trip's weights. -/
theorem wAt_row (x1 : Vec Ideal S28x2x64x512 .i8) (x2 : Vec Ideal S28x2x32x512 .i8) (x3 : Vec Ideal S28x16x512 .i8) (x4 : Vec Ideal S28x1x512 .i16)
    (k : Fin k0_t1_loop.trips) (q : Fin 28) (hq : q.val = k.val) (h : Fin 2) (f : Fin 4) (l : Fin 32) (j : Fin 512) (hb : (x4 (ix3 q 0 j)).toNat ≤ 64512) :
    wAt x1 x2 x3 x4 k (ix2 ⟨h.val * 128 + (f.val * 32 + l.val), by omega⟩ j) =
      weight f (x1 (ix4 q h ⟨32 * (f.val % 2) + l.val, by omega⟩ j)) (x2 (ix4 q h l j))
        (x3 (ix3 q ⟨8 * h.val + 2 * f.val + l.val / 16, by omega⟩ j)) (x4 (ix3 q 0 j)) := by
  have e := wAt_apply x1 x2 x3 x4 k q hq h f ⟨l.val / 16, by omega⟩ ⟨l.val % 16, by omega⟩ j hb
  have e1 : (⟨16 * (8 * h.val + 2 * f.val + l.val / 16) + l.val % 16, by omega⟩ : Fin 256) = ⟨h.val * 128 + (f.val * 32 + l.val), by omega⟩ :=
    Fin.ext (by show 16 * (8 * h.val + 2 * f.val + l.val / 16) + l.val % 16 = h.val * 128 + (f.val * 32 + l.val); omega)
  have e2 : (⟨32 * (f.val % 2) + (16 * (l.val / 16) + l.val % 16), by omega⟩ : Fin 64) = ⟨32 * (f.val % 2) + l.val, by omega⟩ :=
    Fin.ext (by show 32 * (f.val % 2) + (16 * (l.val / 16) + l.val % 16) = 32 * (f.val % 2) + l.val; omega)
  have e3 : (⟨16 * (l.val / 16) + l.val % 16, by omega⟩ : Fin 32) = l := Fin.ext (by show 16 * (l.val / 16) + l.val % 16 = l.val; omega)
  dsimp only at e
  rw [e1, e2, e3] at e
  exact e

theorem xAt_apply (x0 : Vec Ideal S256x7168 .bf16) (k : Fin k0_t1_loop.trips) (q : Fin 28) (hq : q.val = k.val) (r : Fin 256) (i : Fin 256) :
    xAt x0 k (ix2 r i) = x0 (ix2 r ⟨q.val * 256 + i.val, by omega⟩) := by
  unfold xAt
  refine View.ld_unit_apply_of x0 _ _ _ _ _ fun a => ?_
  refine Eq.trans ?_ (congrArg (fun n : ℕ => n + ((ix2 r i : S256x256.Idx) a).val) (congrFun (k0_off9_eq k) a).symm)
  match a with
  | ⟨0, _⟩ => exact (Nat.zero_add _).symm
  | ⟨1, _⟩ => show q.val * 256 + i.val = 256 * k.val + i.val; omega

/-- One step of the accumulator, at an element. -/
theorem step_apply (w : FVec Ideal S256x512 .bf16) (x : Vec Ideal S256x256 .bf16) (a : Vec Ideal S256x512 .f32) (r : Fin 256) (j : Fin 512) :
    k0_pay2 w x a (ix2 r j) = a (ix2 r j) + ∑ i : Fin 256, x (ix2 r i) * w (ix2 i j) := by
  pointwise [k0_pay2]

/-- The accumulator after `k` trips is the sum of the first `k` trips' products. -/
theorem accAt_apply (x0 : Vec Ideal S256x7168 .bf16) (x1 : Vec Ideal S28x2x64x512 .i8) (x2 : Vec Ideal S28x2x32x512 .i8) (x3 : Vec Ideal S28x16x512 .i8) (x4 : Vec Ideal S28x1x512 .i16)
    (r : Fin 256) (j : Fin 512) : ∀ (k : ℕ) (h : k ≤ k0_t1_loop.trips),
    accAt x0 x1 x2 x3 x4 k h (ix2 r j) =
      ∑ n : Fin k, ∑ i : Fin 256, xAt x0 (Fin.castLE h n) (ix2 r i) * wAt x1 x2 x3 x4 (Fin.castLE h n) (ix2 i j)
  | 0, _ => by
    show k0_pay1 (F := Ideal) (ix2 r j) = _
    rw [Finset.univ_eq_empty, Finset.sum_empty]
    pointwise [k0_pay1]
  | k + 1, h => by
    show k0_pay2 _ _ (accAt x0 x1 x2 x3 x4 k _) (ix2 r j) = _
    rw [step_apply, accAt_apply x0 x1 x2 x3 x4 r j k]
    exact (Fin.sum_univ_castSucc fun n : Fin (k + 1) =>
      ∑ i : Fin 256, xAt x0 (Fin.castLE h n) (ix2 r i) * wAt x1 x2 x3 x4 (Fin.castLE h n) (ix2 i j)).symm

/-- WHAT ONE GRID POINT LEAVES at row `r`, lane `j` of its output block. -/
theorem block_apply (x0 : Vec Ideal S256x7168 .bf16) (x1 : Vec Ideal S28x2x64x512 .i8) (x2 : Vec Ideal S28x2x32x512 .i8) (x3 : Vec Ideal S28x16x512 .i8) (x4 : Vec Ideal S28x1x512 .i16)
    (r : Fin 256) (j : Fin 512) (hb : ∀ n : Fin 28, (x4 (ix3 n 0 j)).toNat ≤ 64512) :
    k0_pay3 (accAt x0 x1 x2 x3 x4 k0_t1_loop.trips le_rfl) (ix2 r j) =
      ∑ n : Fin 28, ∑ h : Fin 2, ∑ f : Fin 4, ∑ l : Fin 32,
        x0 (ix2 r ⟨n.val * 256 + (h.val * 128 + (f.val * 32 + l.val)), by omega⟩) *
          weight f (x1 (ix4 n h ⟨32 * (f.val % 2) + l.val, by omega⟩ j)) (x2 (ix4 n h l j))
            (x3 (ix3 n ⟨8 * h.val + 2 * f.val + l.val / 16, by omega⟩ j)) (x4 (ix3 n 0 j)) := by
  show accAt x0 x1 x2 x3 x4 k0_t1_loop.trips le_rfl (ix2 r j) = _
  rw [accAt_apply]
  refine Fintype.sum_equiv (finCongr trips_eq) _ _ fun k => ?_
  rw [Fin.sum_univ_tiles 2 128 rfl]
  refine Finset.sum_congr rfl fun h _ => ?_
  rw [Fin.sum_univ_tiles 4 32 rfl]
  refine Finset.sum_congr rfl fun f _ => Finset.sum_congr rfl fun l _ => ?_
  exact congrArg₂ (fun a b : EReal => a * b) (xAt_apply x0 (Fin.castLE le_rfl k) (finCongr trips_eq k) rfl r _)
    (wAt_row x1 x2 x3 x4 (Fin.castLE le_rfl k) (finCongr trips_eq k) rfl h f l j (hb _))

end Cert.KernelIdeal.Val

end
-- ==== Proof.Array.lean ====
/-
  What the kernel's result array holds: `total` of the five arguments at every index.

    `total`        the dequantised product at a row of `x` and a column of the weights;
    `iblk_…`       a grid point's blocks are the arguments at columns `512 t` to `512 t + 511`;
    `array_eq`     the result array after the run is `total` of the arguments.
-/
module

public import proofs.«01_k».proof.Proof.Block
public import Idealize.ShloMosaic.Lib.Pipeline.ValueKit

@[expose] public section

set_option maxRecDepth 16384

noncomputable section

namespace Cert.KernelIdeal.Val

open Idealize.ShloMosaic Idealize.ShloMosaic.TcCoe Idealize.SL.Sem Cert.KernelIdeal Cert.KernelIdeal.Gen

/-- The dequantised product at row `b` of `x` and column `o` of the weights: over the 28 superblocks `n`, their halves `h`,
    the four fields `f` of a half and a field's 32 rows `l`. -/
def total (x : (⟨3, ![256, 1, 7168]⟩ : Shape).Idx → EReal) (ql : (⟨4, ![28, 2, 64, 18432]⟩ : Shape).Idx → BitVec 8) (qh : (⟨4, ![28, 2, 32, 18432]⟩ : Shape).Idx → BitVec 8)
    (sc : (⟨3, ![28, 16, 18432]⟩ : Shape).Idx → BitVec 8) (d : (⟨2, ![28, 18432]⟩ : Shape).Idx → BitVec 16) (b : Fin 256) (o : Fin 18432) : EReal :=
  ∑ n : Fin 28, ∑ h : Fin 2, ∑ f : Fin 4, ∑ l : Fin 32,
    x (ix3 b 0 ⟨n.val * 256 + (h.val * 128 + (f.val * 32 + l.val)), by omega⟩) *
      weight f (ql (ix4 n h ⟨32 * (f.val % 2) + l.val, by omega⟩ o)) (qh (ix4 n h l o))
        (sc (ix3 n ⟨8 * h.val + 2 * f.val + l.val / 16, by omega⟩ o)) (d (ix2 n o))

variable (m : (ℓ : Loc nD τ sig) → Buf (Elt Ideal) ℓ)

theorem drop_x (X : S256x1x7168.Idx → EReal) (b : Fin 256) (i : Fin 7168) : shapeCast S256x7168 X shapeCasts_S256x1x7168_S256x7168 (ix2 b i) = X (ix3 b 0 i) := by
  pointwise

theorem put_d (X : S28x18432.Idx → BitVec 16) (n : Fin 28) (o : Fin 18432) : shapeCast S28x1x18432 X shapeCasts_S28x18432_S28x1x18432 (ix3 n 0 o) = X (ix2 n o) := by
  pointwise

/-- The region finds `x` as a 256 x 7168 matrix: the argument's unit axis dropped. -/
theorem V_x (c : Dev nD) (b : Fin 256) (i : Fin 7168) : V m c main_v0 (ix2 b i) = m ((c : Thread nD τ).loc main_arg0) (ix3 b 0 i) := by
  have e : V m c main_v0 = shapeCast S256x7168 (m ((c : Thread nD τ).loc main_arg0)) shapeCasts_S256x1x7168_S256x7168 := by
    unfold V
    after_results
    rfl
  rw [e]
  exact drop_x _ b i

/-- The region finds `d` with a unit axis put in. -/
theorem V_d (c : Dev nD) (n : Fin 28) (o : Fin 18432) : V m c main_v1 (ix3 n 0 o) = m ((c : Thread nD τ).loc main_arg4) (ix2 n o) := by
  have e : V m c main_v1 = shapeCast S28x1x18432 (m ((c : Thread nD τ).loc main_arg4)) shapeCasts_S28x18432_S28x1x18432 := by
    unfold V
    after_results
    rfl
  rw [e]
  exact put_d _ n o

theorem idx0 : ∀ t : Fin cfg0.N, win0_0.index t = ![0, 0] := (by decide +kernel : ∀ t : Fin grid0.N, win0_0.index t = ![0, 0])
theorem idx1 : ∀ t : Fin cfg0.N, win0_1.index t = ![0, 0, 0, t.val] := (by decide +kernel : ∀ t : Fin grid0.N, win0_1.index t = ![0, 0, 0, t.val])
theorem idx2 : ∀ t : Fin cfg0.N, win0_2.index t = ![0, 0, 0, t.val] := (by decide +kernel : ∀ t : Fin grid0.N, win0_2.index t = ![0, 0, 0, t.val])
theorem idx3 : ∀ t : Fin cfg0.N, win0_3.index t = ![0, 0, t.val] := (by decide +kernel : ∀ t : Fin grid0.N, win0_3.index t = ![0, 0, t.val])
theorem idx4 : ∀ t : Fin cfg0.N, win0_4.index t = ![0, 0, t.val] := (by decide +kernel : ∀ t : Fin grid0.N, win0_4.index t = ![0, 0, t.val])
theorem idx5 : ∀ t : Fin cfg0.N, win0_5.index t = ![0, t.val] := (by decide +kernel : ∀ t : Fin grid0.N, win0_5.index t = ![0, t.val])

/-! ### A grid point's blocks, as places of the arguments -/

section
variable (c : Dev nD) (t : Fin cfg0.N) (j : Fin 512) (o : Fin 18432) (ho : o.val = t.val * 512 + j.val)
include ho

theorem iblk_ql (n : Fin 28) (h : Fin 2) (p : Fin 64) : iblk m c 1 t (ix4 n h p j) = m ((c : Thread nD τ).loc main_arg1) (ix4 n h p o) := by
  unfold iblk
  rw [show V m c (Pipeline.arrRef spec0 1) = _ from V_main_arg1 m c]
  blk_ext [idx1 t]

theorem iblk_qh (n : Fin 28) (h : Fin 2) (p : Fin 32) : iblk m c 2 t (ix4 n h p j) = m ((c : Thread nD τ).loc main_arg2) (ix4 n h p o) := by
  unfold iblk
  rw [show V m c (Pipeline.arrRef spec0 2) = _ from V_main_arg2 m c]
  blk_ext [idx2 t]

theorem iblk_sc (n : Fin 28) (a : Fin 16) : iblk m c 3 t (ix3 n a j) = m ((c : Thread nD τ).loc main_arg3) (ix3 n a o) := by
  unfold iblk
  rw [show V m c (Pipeline.arrRef spec0 3) = _ from V_main_arg3 m c]
  blk_ext [idx3 t]

theorem iblk_d (n : Fin 28) : iblk m c 4 t (ix3 n 0 j) = m ((c : Thread nD τ).loc main_arg4) (ix2 n o) := by
  rw [← V_d m c n o]
  unfold iblk
  show _ = V m c (Pipeline.arrRef spec0 4) (ix3 n 0 o)
  generalize V m c (Pipeline.arrRef spec0 4) = X
  blk_ext [idx4 t]
end

theorem iblk_x (c : Dev nD) (t : Fin cfg0.N) (b : Fin 256) (i : Fin 7168) : iblk m c 0 t (ix2 b i) = m ((c : Thread nD τ).loc main_arg0) (ix3 b 0 i) := by
  rw [← V_x m c b i]
  unfold iblk
  show _ = V m c (Pipeline.arrRef spec0 0) (ix2 b i)
  generalize V m c (Pipeline.arrRef spec0 0) = X
  blk_ext [idx0 t]

/-- What grid point `t` leaves at row `b`, lane `j` of its block is `total` at column `512 t + j`. -/
theorem point_eq (c : Dev nD) (hb : ∀ n o, (m ((c : Thread nD τ).loc main_arg4) (ix2 n o)).toNat ≤ 64512)
    (t : Fin cfg0.N) (b : Fin 256) (j : Fin 512) (o : Fin 18432) (ho : o.val = t.val * 512 + j.val) :
    k0_pay3 (accAt (F := Ideal) (iblk m c 0 t) (iblk m c 1 t) (iblk m c 2 t) (iblk m c 3 t) (iblk m c 4 t) k0_t1_loop.trips le_rfl) (ix2 b j) =
      total (m ((c : Thread nD τ).loc main_arg0)) (m ((c : Thread nD τ).loc main_arg1)) (m ((c : Thread nD τ).loc main_arg2))
        (m ((c : Thread nD τ).loc main_arg3)) (m ((c : Thread nD τ).loc main_arg4)) b o := by
  rw [block_apply _ _ _ _ _ _ _ fun n => by rw [iblk_d m c t j o ho]; exact hb n o]
  unfold total
  refine Finset.sum_congr rfl fun n _ => Finset.sum_congr rfl fun h _ => Finset.sum_congr rfl fun f _ => Finset.sum_congr rfl fun l _ => ?_
  rw [iblk_x, iblk_ql m c t j o ho, iblk_qh m c t j o ho, iblk_sc m c t j o ho, iblk_d m c t j o ho]

/-- THE KERNEL'S RESULT ARRAY after the run: `total` of the arguments at every index, if no element of `d` is a NaN with its sign bit set. -/
theorem array_eq (c : Dev nD) (hb : ∀ n o, (m ((c : Thread nD τ).loc main_arg4) (ix2 n o)).toNat ≤ 64512) :
    (dats m 0 c).arrAt 5 cfg0.N = fun i : S256x18432.Idx =>
      total (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) := by
  refine (dats m 0 c).arrAt_eq_of_covers 5 _ (by decide +kernel) fun t hf y => ?_
  have e0 : (((win0_5.blk t).view.emb y) 0).val = (y 0).val := by
    blk_simp [idx5 t]
  have e1 : (((win0_5.blk t).view.emb y) 1).val = t.val * 512 + (y 1).val := by
    blk_simp [idx5 t]
  blk_simp
  revert e0 e1
  generalize (win0_5.blk t).view.emb y = e
  intro e0 e1
  rw [after0_5]
  show out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (iblk m c 0 t) (iblk m c 1 t) (iblk m c 2 t) (iblk m c 3 t) (iblk m c 4 t) y = _
  rw [out_eq]
  rw [eq_ix2 (n0 := 256) (n1 := 512) y]
  refine (point_eq m c hb t (y 0) (y 1) (e 1) e1).trans ?_
  exact congrArg (fun b => total _ _ _ _ _ b (e 1)) (Fin.ext e0.symm)

end Cert.KernelIdeal.Val

end
-- ==== Proof.Fields.lean ====
/-
  The reference's dequantisation and products, read one element at a time.

    `codes`      the four 6-bit codes of the reference, of the fields of a half superblock: the `qCode`s;
    `scales`     the scale of each group of 16 rows: `d` times the group's signed 8-bit scale;
    `fieldW`     one field's weights, `fieldX` its part of `x`, `fieldDot` their product;
    `result`     what the reference returns, as a term over its arguments;
    `result_apply` …  and its element: the sum over the four fields.
-/
module

public import proofs.«01_k».proof.Proof.Array
public import proofs.«01_k».proof.Proof.Gen.ReferenceIdeal
public import Idealize.ShloMosaic.Lib.KernelVsHost

@[expose] public section

set_option maxRecDepth 16384

noncomputable section

namespace Cert.ReferenceIdeal.Val

open Idealize.ShloMosaic Idealize.ShloMosaic.TcCoe Idealize.SL.Sem Cert.ReferenceIdeal Cert.ReferenceIdeal.Gen
open Cert.KernelIdeal.Val (qCode weight)

variable {F : FTy → Type} [FloatOps F]

/-- The integer `v` at every place of a field. -/
def splat (v : BitVec 32) : IVec S28x2x32x18432 32 := broadcastInDim S28x2x32x18432 ![] bcast_S_S28x2x32x18432 (constantI S_ 32 v)

/-- Rows 0 to 31 of `ql`, as integers. -/
def low (ql : IVec S28x2x64x18432 8) : IVec S28x2x32x18432 32 :=
  extractStridedSlice S28x2x32x18432 ![0, 0, 0, 0] (extui 32 ql natLt_8_32) slices_S28x2x64x18432_S28x2x32x18432_0_0_0_0

/-- Rows 32 to 63 of `ql`, as integers. -/
def high (ql : IVec S28x2x64x18432 8) : IVec S28x2x32x18432 32 :=
  extractStridedSlice S28x2x32x18432 ![0, 0, 32, 0] (extui 32 ql natLt_8_32) slices_S28x2x64x18432_S28x2x32x18432_0_0_32_0

/-- `qh`, as integers. -/
def tops (qh : IVec S28x2x32x18432 8) : IVec S28x2x32x18432 32 := extui 32 qh natLt_8_32

/-- The four codes of a half superblock. -/
def codes (ql : IVec S28x2x64x18432 8) (qh : IVec S28x2x32x18432 8) : Fin 4 → IVec S28x2x32x18432 32
  | 0 => ori (andi (low ql) (splat 15#32)) (Host.shli (andi (tops qh) (splat 3#32)) (splat 4#32))
  | 1 => ori (andi (high ql) (splat 15#32)) (Host.shli (andi (Host.shrsi (tops qh) (splat 2#32)) (splat 3#32)) (splat 4#32))
  | 2 => ori (Host.shrsi (low ql) (splat 4#32)) (Host.shli (andi (Host.shrsi (tops qh) (splat 4#32)) (splat 3#32)) (splat 4#32))
  | 3 => ori (Host.shrsi (high ql) (splat 4#32)) (Host.shli (andi (Host.shrsi (tops qh) (splat 6#32)) (splat 3#32)) (splat 4#32))

/-- The scales, by superblock, half, field and 16-row group. -/
def scales (dv : Vec F S28x18432 .f32) (sc : IVec S28x16x18432 8) : Vec F S28x2x4x2x1x18432 .bf16 :=
  shapeCast S28x2x4x2x1x18432 (truncf .bf16 (mulf (broadcastInDim S28x16x18432 ![0, 1, 2] bcast_S28x1x18432_S28x16x18432_0_1_2
    (broadcastInDim S28x1x18432 ![0, 2] bcast_S28x18432_S28x1x18432_0_2 dv)) (sitofp .f32 (extsi 32 sc natLt_8_32))) bitsLt_bf16_f32) shapeCasts_S28x16x18432_S28x2x4x2x1x18432

/-- One field's weights: its code less 32, times its groups' scales. -/
def fieldW (code : IVec S28x2x32x18432 32) (s : Vec F S28x2x1x2x1x18432 .bf16) : Vec F S28x2x32x18432 .bf16 :=
  shapeCast S28x2x32x18432 (mulf
    (shapeCast S28x2x2x16x18432 (subf (sitofp .bf16 code) (broadcastInDim S28x2x32x18432 ![] bcast_S_S28x2x32x18432 (constant S_ .bf16 0x4200#16))) shapeCasts_S28x2x32x18432_S28x2x2x16x18432)
    (broadcastInDim S28x2x2x16x18432 ![0, 1, 2, 3, 4] bcast_S28x2x2x1x18432_S28x2x2x16x18432_0_1_2_3_4 (shapeCast S28x2x2x1x18432 s shapeCasts_S28x2x1x2x1x18432_S28x2x2x1x18432)))
    shapeCasts_S28x2x2x16x18432_S28x2x32x18432

/-- One field's product: its part of `x` with its weights. -/
def fieldDot (xf : Vec F S256x1x28x2x1x32 .bf16) (w : Vec F S28x2x32x18432 .bf16) : Vec F S256x1x18432 .f32 :=
  Host.dotGeneral dot_S256x1x28x2x32_S28x2x32x18432_S256x1x18432_342_120_01_3_n_n none (shapeCast S256x1x28x2x32 xf shapeCasts_S256x1x28x2x1x32_S256x1x28x2x32) w

/-- Field `f`'s scales. -/
def scaleOf (s : Vec F S28x2x4x2x1x18432 .bf16) : Fin 4 → Vec F S28x2x1x2x1x18432 .bf16
  | 0 => extractStridedSlice S28x2x1x2x1x18432 ![0, 0, 0, 0, 0, 0] s slices_S28x2x4x2x1x18432_S28x2x1x2x1x18432_0_0_0_0_0_0
  | 1 => extractStridedSlice S28x2x1x2x1x18432 ![0, 0, 1, 0, 0, 0] s slices_S28x2x4x2x1x18432_S28x2x1x2x1x18432_0_0_1_0_0_0
  | 2 => extractStridedSlice S28x2x1x2x1x18432 ![0, 0, 2, 0, 0, 0] s slices_S28x2x4x2x1x18432_S28x2x1x2x1x18432_0_0_2_0_0_0
  | 3 => extractStridedSlice S28x2x1x2x1x18432 ![0, 0, 3, 0, 0, 0] s slices_S28x2x4x2x1x18432_S28x2x1x2x1x18432_0_0_3_0_0_0

/-- `x` by superblock, half and field. -/
def xFields (x : Vec F S256x1x7168 .bf16) : Vec F S256x1x28x2x4x32 .bf16 := shapeCast S256x1x28x2x4x32 x shapeCasts_S256x1x7168_S256x1x28x2x4x32

/-- Field `f`'s part of `x`. -/
def fieldX (x : Vec F S256x1x28x2x4x32 .bf16) : Fin 4 → Vec F S256x1x28x2x1x32 .bf16
  | 0 => extractStridedSlice S256x1x28x2x1x32 ![0, 0, 0, 0, 0, 0] x slices_S256x1x28x2x4x32_S256x1x28x2x1x32_0_0_0_0_0_0
  | 1 => extractStridedSlice S256x1x28x2x1x32 ![0, 0, 0, 0, 1, 0] x slices_S256x1x28x2x4x32_S256x1x28x2x1x32_0_0_0_0_1_0
  | 2 => extractStridedSlice S256x1x28x2x1x32 ![0, 0, 0, 0, 2, 0] x slices_S256x1x28x2x4x32_S256x1x28x2x1x32_0_0_0_0_2_0
  | 3 => extractStridedSlice S256x1x28x2x1x32 ![0, 0, 0, 0, 3, 0] x slices_S256x1x28x2x4x32_S256x1x28x2x1x32_0_0_0_0_3_0

/-- Field `f`'s product. -/
def fieldTerm (x : Vec F S256x1x7168 .bf16) (ql : IVec S28x2x64x18432 8) (qh : IVec S28x2x32x18432 8) (sc : IVec S28x16x18432 8) (dv : Vec F S28x18432 .f32)
    (f : Fin 4) : Vec F S256x1x18432 .f32 :=
  fieldDot (fieldX (xFields x) f) (fieldW (codes ql qh f) (scaleOf (scales dv sc) f))

/-- What the reference returns: the four fields' products added to zero one after another. -/
def result (x : Vec F S256x1x7168 .bf16) (ql : IVec S28x2x64x18432 8) (qh : IVec S28x2x32x18432 8) (sc : IVec S28x16x18432 8) (dv : Vec F S28x18432 .f32) :
    Vec F S256x18432 .bf16 :=
  shapeCast S256x18432 (truncf .bf16 (addf (addf (addf (addf
    (broadcastInDim S256x1x18432 ![] bcast_S_S256x1x18432 (constant S_ .f32 0x00000000#32))
    (fieldTerm x ql qh sc dv 0)) (fieldTerm x ql qh sc dv 1)) (fieldTerm x ql qh sc dv 2)) (fieldTerm x ql qh sc dv 3)) bitsLt_bf16_f32) shapeCasts_S256x1x18432_S256x18432

theorem splat_apply (v : BitVec 32) (n : Fin 28) (h : Fin 2) (l : Fin 32) (o : Fin 18432) : splat v (ix4 n h l o) = v := by
  pointwise [splat]

theorem low_apply (ql : IVec S28x2x64x18432 8) (n : Fin 28) (h : Fin 2) (l : Fin 32) (o : Fin 18432) :
    low ql (ix4 n h l o) = (ql (ix4 n h ⟨l.val, by omega⟩ o)).setWidth 32 := by
  pointwise [low]

theorem high_apply (ql : IVec S28x2x64x18432 8) (n : Fin 28) (h : Fin 2) (l : Fin 32) (o : Fin 18432) :
    high ql (ix4 n h l o) = (ql (ix4 n h ⟨32 + l.val, by omega⟩ o)).setWidth 32 := by
  pointwise [high]

theorem tops_apply (qh : IVec S28x2x32x18432 8) (n : Fin 28) (h : Fin 2) (l : Fin 32) (o : Fin 18432) :
    tops qh (ix4 n h l o) = (qh (ix4 n h l o)).setWidth 32 := by
  pointwise [tops]

theorem codes_apply (ql : IVec S28x2x64x18432 8) (qh : IVec S28x2x32x18432 8) (f : Fin 4) (n : Fin 28) (h : Fin 2) (l : Fin 32) (o : Fin 18432) :
    codes ql qh f (ix4 n h l o) = qCode f (ql (ix4 n h ⟨32 * (f.val % 2) + l.val, by omega⟩ o)) (qh (ix4 n h l o)) := by
  have e0 : (⟨32 * ((0 : Fin 4).val % 2) + l.val, by omega⟩ : Fin 64) = ⟨l.val, by omega⟩ := Fin.ext (by simp)
  have e1 : (⟨32 * ((1 : Fin 4).val % 2) + l.val, by omega⟩ : Fin 64) = ⟨32 + l.val, by omega⟩ := Fin.ext (by simp)
  have e2 : (⟨32 * ((2 : Fin 4).val % 2) + l.val, by omega⟩ : Fin 64) = ⟨l.val, by omega⟩ := Fin.ext (by simp)
  have e3 : (⟨32 * ((3 : Fin 4).val % 2) + l.val, by omega⟩ : Fin 64) = ⟨32 + l.val, by omega⟩ := Fin.ext (by simp)
  fin_cases f
  · show codes ql qh 0 _ = qCode 0 (ql (ix4 n h ⟨32 * ((0 : Fin 4).val % 2) + l.val, by omega⟩ o)) _
    rw [e0]
    pointwise [codes, splat_apply, low_apply, tops_apply, qCode]
    rfl
  · show codes ql qh 1 _ = qCode 1 (ql (ix4 n h ⟨32 * ((1 : Fin 4).val % 2) + l.val, by omega⟩ o)) _
    rw [e1]
    pointwise [codes, splat_apply, high_apply, tops_apply, qCode]
    rfl
  · show codes ql qh 2 _ = qCode 2 (ql (ix4 n h ⟨32 * ((2 : Fin 4).val % 2) + l.val, by omega⟩ o)) _
    rw [e2]
    pointwise [codes, splat_apply, low_apply, tops_apply, qCode]
    rfl
  · show codes ql qh 3 _ = qCode 3 (ql (ix4 n h ⟨32 * ((3 : Fin 4).val % 2) + l.val, by omega⟩ o)) _
    rw [e3]
    pointwise [codes, splat_apply, high_apply, tops_apply, qCode]
    rfl

theorem scales_apply (dv : Vec Ideal S28x18432 .f32) (sc : IVec S28x16x18432 8) (n : Fin 28) (h : Fin 2) (f : Fin 4) (k : Fin 2) (o : Fin 18432) :
    scales dv sc (ix6 n h f k 0 o) = dv (ix2 n o) * (((sc (ix3 n ⟨8 * h.val + 2 * f.val + k.val, by omega⟩ o)).toInt : ℝ) : EReal) := by
  have e : (⟨h.val * 8 + f.val * 2 + k.val, by omega⟩ : Fin 16) = ⟨8 * h.val + 2 * f.val + k.val, by omega⟩ := Fin.ext (by show h.val * 8 + f.val * 2 + k.val = 8 * h.val + 2 * f.val + k.val; omega)
  pointwise [scales]
  rw [e]
  show _ * ((((sc (ix3 n ⟨8 * h.val + 2 * f.val + k.val, _⟩ o)).signExtend 32).toInt : ℝ) : EReal) = _
  rw [BitVec.toInt_signExtend_of_le (by omega)]

theorem fieldW_apply (code : IVec S28x2x32x18432 32) (s : Vec Ideal S28x2x1x2x1x18432 .bf16) (n : Fin 28) (h : Fin 2) (l : Fin 32) (o : Fin 18432) :
    fieldW code s (ix4 n h l o) = ((((code (ix4 n h l o)).toInt : ℝ) : EReal) - Ideal.ofBits .bf16 0x4200#16) * s (ix6 n h 0 ⟨l.val / 16, by omega⟩ 0 o) := by
  pointwise [fieldW]
  rfl

/-! ### One field's product as a sum -/

/-- The contraction's dimension numbers. -/
abbrev dims : DotDims S256x1x28x2x32 S28x2x32x18432 S256x1x18432 := dot_S256x1x28x2x32_S28x2x32x18432_S256x1x18432_342_120_01_3_n_n

theorem contr_rank : dims.contr.rank = 3 := rfl
theorem contr_size0 : dims.contr.size ⟨0, by rw [contr_rank]; omega⟩ = 2 := rfl
theorem contr_size1 : dims.contr.size ⟨1, by rw [contr_rank]; omega⟩ = 32 := rfl
theorem contr_size2 : dims.contr.size ⟨2, by rw [contr_rank]; omega⟩ = 28 := rfl

/-- A contraction index is its half, row and superblock. -/
def contrIdx : dims.contr.Idx ≃ Fin 2 × Fin 32 × Fin 28 where
  toFun q := ((q ⟨0, by rw [contr_rank]; omega⟩).cast contr_size0, (q ⟨1, by rw [contr_rank]; omega⟩).cast contr_size1, (q ⟨2, by rw [contr_rank]; omega⟩).cast contr_size2)
  invFun p := fun a =>
    if h0 : a.val = 0 then p.1.cast (contr_size0.symm.trans (congrArg dims.contr.size (Fin.ext h0.symm)))
    else if h1 : a.val = 1 then p.2.1.cast (contr_size1.symm.trans (congrArg dims.contr.size (Fin.ext h1.symm)))
    else p.2.2.cast (contr_size2.symm.trans (congrArg dims.contr.size (Fin.ext (by have := lt_of_lt_of_eq a.isLt contr_rank; show 2 = a.val; omega))))
  left_inv q := by
    funext a
    have ha := lt_of_lt_of_eq a.isLt contr_rank
    have p0 : 0 < dims.contr.rank := by rw [contr_rank]; omega
    have p1 : 1 < dims.contr.rank := by rw [contr_rank]; omega
    have p2 : 2 < dims.contr.rank := by rw [contr_rank]; omega
    by_cases h0 : a.val = 0
    · obtain rfl : a = ⟨0, p0⟩ := Fin.ext h0
      simp
      rfl
    · by_cases h1 : a.val = 1
      · obtain rfl : a = ⟨1, p1⟩ := Fin.ext h1
        simp
        rfl
      · obtain rfl : a = ⟨2, p2⟩ := Fin.ext (by show a.val = 2; omega)
        simp
        rfl
  right_inv p := by
    refine Prod.ext (Fin.ext ?_) (Prod.ext (Fin.ext ?_) (Fin.ext ?_)) <;> simp

theorem contrIdx_0 (p : Fin 2 × Fin 32 × Fin 28) : (contrIdx.symm p ⟨0, by rw [contr_rank]; omega⟩ : ℕ) = p.1.val := by simp [contrIdx]
theorem contrIdx_1 (p : Fin 2 × Fin 32 × Fin 28) : (contrIdx.symm p ⟨1, by rw [contr_rank]; omega⟩ : ℕ) = p.2.1.val := by simp [contrIdx]
theorem contrIdx_2 (p : Fin 2 × Fin 32 × Fin 28) : (contrIdx.symm p ⟨2, by rw [contr_rank]; omega⟩ : ℕ) = p.2.2.val := by simp [contrIdx]

theorem lhsIdx_eq (b : Fin 256) (o : Fin 18432) (p : Fin 2 × Fin 32 × Fin 28) : dims.lhsIdx (ix3 b 0 o) (contrIdx.symm p) = ix5 b 0 p.2.2 p.1 p.2.1 := by
  have h0 := contrIdx_0 p
  have h1 := contrIdx_1 p
  have h2 := contrIdx_2 p
  funext a; apply Fin.ext
  match a with
  | ⟨0, _⟩ => rfl
  | ⟨1, _⟩ => rfl
  | ⟨2, _⟩ => exact h2
  | ⟨3, _⟩ => exact h0
  | ⟨4, _⟩ => exact h1

theorem rhsIdx_eq (b : Fin 256) (o : Fin 18432) (p : Fin 2 × Fin 32 × Fin 28) : dims.rhsIdx (ix3 b 0 o) (contrIdx.symm p) = ix4 p.2.2 p.1 p.2.1 o := by
  have h0 := contrIdx_0 p
  have h1 := contrIdx_1 p
  have h2 := contrIdx_2 p
  funext a; apply Fin.ext
  match a with
  | ⟨0, _⟩ => exact h2
  | ⟨1, _⟩ => exact h0
  | ⟨2, _⟩ => exact h1
  | ⟨3, _⟩ => rfl

theorem dropX_apply (xf : Vec Ideal S256x1x28x2x1x32 .bf16) (b : Fin 256) (n : Fin 28) (h : Fin 2) (l : Fin 32) :
    shapeCast S256x1x28x2x32 xf shapeCasts_S256x1x28x2x1x32_S256x1x28x2x32 (ix5 b 0 n h l) = xf (ix6 b 0 n h 0 l) := by
  pointwise

/-- A field's product at an element: the sum over halves, rows and superblocks. -/
theorem fieldDot_apply (xf : Vec Ideal S256x1x28x2x1x32 .bf16) (w : Vec Ideal S28x2x32x18432 .bf16) (b : Fin 256) (o : Fin 18432) :
    fieldDot xf w (ix3 b 0 o) = ∑ h : Fin 2, ∑ l : Fin 32, ∑ n : Fin 28, xf (ix6 b 0 n h 0 l) * w (ix4 n h l o) := by
  unfold fieldDot
  simp only [Host.dotGeneral]
  rw [Ideal.dotGeneral_apply, ← Equiv.sum_comp contrIdx.symm, Fintype.sum_prod_type]
  refine Finset.sum_congr rfl fun h _ => ?_
  rw [Fintype.sum_prod_type]
  refine Finset.sum_congr rfl fun l _ => Finset.sum_congr rfl fun n _ => ?_
  rw [lhsIdx_eq, rhsIdx_eq, dropX_apply]

theorem scaleOf_apply (s : Vec Ideal S28x2x4x2x1x18432 .bf16) (f : Fin 4) (n : Fin 28) (h : Fin 2) (k : Fin 2) (o : Fin 18432) :
    scaleOf s f (ix6 n h 0 k 0 o) = s (ix6 n h f k 0 o) := by
  fin_cases f <;> pointwise [scaleOf] <;> rfl

theorem fieldX_apply (x : Vec Ideal S256x1x28x2x4x32 .bf16) (f : Fin 4) (b : Fin 256) (n : Fin 28) (h : Fin 2) (l : Fin 32) :
    fieldX x f (ix6 b 0 n h 0 l) = x (ix6 b 0 n h f l) := by
  fin_cases f <;> pointwise [fieldX] <;> rfl

theorem xFields_apply (x : Vec Ideal S256x1x7168 .bf16) (f : Fin 4) (b : Fin 256) (n : Fin 28) (h : Fin 2) (l : Fin 32) :
    xFields x (ix6 b 0 n h f l) = x (ix3 b 0 ⟨n.val * 256 + (h.val * 128 + (f.val * 32 + l.val)), by omega⟩) := by
  have e : (⟨n.val * 256 + h.val * 128 + f.val * 32 + l.val, by omega⟩ : Fin 7168) = ⟨n.val * 256 + (h.val * 128 + (f.val * 32 + l.val)), by omega⟩ :=
    Fin.ext (by show n.val * 256 + h.val * 128 + f.val * 32 + l.val = n.val * 256 + (h.val * 128 + (f.val * 32 + l.val)); omega)
  pointwise [xFields]
  rw [e]

theorem bf16_32 : Ideal.ofBits .bf16 0x4200#16 = ((32 : ℝ) : EReal) := by
  simp [Ideal.ofBits, Ideal.ieee]
  rw [← EReal.coe_mul]
  norm_num

/-- One product of the reference is one product of `total`, where `dv` is `d` decoded. -/
theorem fieldTerm_apply (x : Vec Ideal S256x1x7168 .bf16) (ql : IVec S28x2x64x18432 8) (qh : IVec S28x2x32x18432 8) (sc : IVec S28x16x18432 8) (d : IVec S28x18432 16)
    (dv : Vec Ideal S28x18432 .f32) (hd : ∀ n o, dv (ix2 n o) = Ideal.ofBits .f16 (d (ix2 n o))) (f : Fin 4) (b : Fin 256) (o : Fin 18432) :
    fieldTerm x ql qh sc dv f (ix3 b 0 o) = ∑ h : Fin 2, ∑ l : Fin 32, ∑ n : Fin 28,
      x (ix3 b 0 ⟨n.val * 256 + (h.val * 128 + (f.val * 32 + l.val)), by omega⟩) *
        weight f (ql (ix4 n h ⟨32 * (f.val % 2) + l.val, by omega⟩ o)) (qh (ix4 n h l o))
          (sc (ix3 n ⟨8 * h.val + 2 * f.val + l.val / 16, by omega⟩ o)) (d (ix2 n o)) := by
  unfold fieldTerm
  rw [fieldDot_apply]
  refine Finset.sum_congr rfl fun h _ => Finset.sum_congr rfl fun l _ => Finset.sum_congr rfl fun n _ => ?_
  rw [fieldX_apply, xFields_apply, fieldW_apply, scaleOf_apply, scales_apply, codes_apply, hd, bf16_32]
  unfold weight
  rw [← EReal.coe_sub, Int.cast_sub]
  norm_num

/-- The reference's element: `total` of the arguments. -/
theorem result_apply (x : Vec Ideal S256x1x7168 .bf16) (ql : IVec S28x2x64x18432 8) (qh : IVec S28x2x32x18432 8) (sc : IVec S28x16x18432 8) (d : IVec S28x18432 16)
    (dv : Vec Ideal S28x18432 .f32) (hd : ∀ n o, dv (ix2 n o) = Ideal.ofBits .f16 (d (ix2 n o))) (b : Fin 256) (o : Fin 18432) :
    result x ql qh sc dv (ix2 b o) = Cert.KernelIdeal.Val.total x ql qh sc d b o := by
  have e : result x ql qh sc dv (ix2 b o) = ∑ f : Fin 4, fieldTerm x ql qh sc dv f (ix3 b 0 o) := by
    pointwise [result]
    rw [Fin.sum_univ_four]
  rw [e]
  unfold Cert.KernelIdeal.Val.total
  simp only [fieldTerm_apply x ql qh sc d dv hd]
  calc _ = ∑ f : Fin 4, ∑ n : Fin 28, ∑ h : Fin 2, ∑ l : Fin 32, _ := Finset.sum_congr rfl fun f _ => by
        rw [Finset.sum_congr rfl fun h _ => Finset.sum_comm, Finset.sum_comm]
    _ = ∑ n : Fin 28, ∑ f : Fin 4, ∑ h : Fin 2, ∑ l : Fin 32, _ := Finset.sum_comm
    _ = _ := Finset.sum_congr rfl fun n _ => Finset.sum_comm

end Cert.ReferenceIdeal.Val

end
-- ==== Proof.RefRun.lean ====
/-
  What the reference's run leaves in its result: `result` of the arguments and of `d` decoded.
-/
module

public import proofs.«01_k».proof.Proof.Fields
public import proofs.«01_k».proof.Proof.Gen.ReferenceIdeal.Frame
public import Idealize.ShloMosaic.Lib.Pipeline.ValueKit
public import Idealize.ShloMosaic.Lib.StableHlo.RunRead
public import Idealize.ShloMosaic.Lib.Claim

@[expose] public section

set_option maxRecDepth 16384

noncomputable section

namespace Cert.ReferenceIdeal.Val

open Idealize.ShloMosaic Idealize.ShloMosaic.TcCoe Idealize.SL.Sem Cert.ReferenceIdeal Cert.ReferenceIdeal.Gen

set_option maxHeartbeats 4000000 in
/-- The lines after the region compute `result`, whatever the buffers hold before them. -/
theorem tail_eq {F : FTy → Type} [FloatOps F] (V : Valuation τ sig (Elt F)) :
    StableHlo.after (hostOps1 (F := F)) V (Proc.devRef .tc main_v101) =
      result (V (Proc.devRef .tc main_arg0)) (V (Proc.devRef .tc main_arg1)) (V (Proc.devRef .tc main_arg2)) (V (Proc.devRef .tc main_arg3)) (V (Proc.devRef .tc main_v0)) := by
  after_reads_simp
  rfl

variable (m : (ℓ : Loc nD τ sig) → Buf (Elt Ideal) ℓ) (ρ : Dev nD → PrngReg)

/-- The region leaves `d` decoded: each 16-bit pattern read as a half-precision number. -/
theorem decoded (c : Dev nD) :
    (dats m 0 c).arrAt 1 cfg0.N = fun i : S28x18432.Idx => Ideal.ofBits .f16 (m ((c.tc : Thread nD τ).loc main_arg4) i) := by
  refine (dats m 0 c).arrAt_eq_of_covers 1 _ (by decide +kernel) fun t hf y => ?_
  blk_simp
  rw [after0_1]
  frame_out
  show Ideal.ofBits .f16 (iblk m c 0 t y) = _
  refine congrArg (Ideal.ofBits .f16) ?_
  unfold iblk
  show _ = V m c (Pipeline.arrRef spec0 0) _
  generalize V m c (Pipeline.arrRef spec0 0) = X
  rfl

/-- The reference's run: the result is `result` of the arguments and `d` decoded, and the arguments end unchanged. -/
theorem run : θ_run defs (onTc (τ := τ) (main (F := Ideal))) ⟨m, fun _ => 0, ρ⟩ (fun r => ∀ c : Dev nD,
    r.2.mem ((c.tc : Thread nD τ).loc main_v101) = result (m ((c.tc : Thread nD τ).loc main_arg0)) (m ((c.tc : Thread nD τ).loc main_arg1))
      (m ((c.tc : Thread nD τ).loc main_arg2)) (m ((c.tc : Thread nD τ).loc main_arg3)) (fun i : S28x18432.Idx => Ideal.ofBits .f16 (m ((c.tc : Thread nD τ).loc main_arg4) i))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  run_from run_main m ρ
  · rw [← decoded m c]
    refine (tail_eq _).trans ?_
    have e0 := Pipeline.withArrays_of_ne spec0 c (V0 m c) (fun w => (dats m 0 c).arrAt w cfg0.N) main_arg0 (by exact (by decide : ∀ w, Pipeline.arrRef spec0 w ≠ main_arg0))
    have e1 := Pipeline.withArrays_of_ne spec0 c (V0 m c) (fun w => (dats m 0 c).arrAt w cfg0.N) main_arg1 (by exact (by decide : ∀ w, Pipeline.arrRef spec0 w ≠ main_arg1))
    have e2 := Pipeline.withArrays_of_ne spec0 c (V0 m c) (fun w => (dats m 0 c).arrAt w cfg0.N) main_arg2 (by exact (by decide : ∀ w, Pipeline.arrRef spec0 w ≠ main_arg2))
    have e3 := Pipeline.withArrays_of_ne spec0 c (V0 m c) (fun w => (dats m 0 c).arrAt w cfg0.N) main_arg3 (by exact (by decide : ∀ w, Pipeline.arrRef spec0 w ≠ main_arg3))
    have e4 := Pipeline.withArrays_arr spec0 (by decide) c (V0 m c) (fun w => (dats m 0 c).arrAt w cfg0.N) 1
    exact (congr (congr (congr (congr (congrArg result e0) e1) e2) e3) e4)
  · exact W_main_arg0 m (dats m) c
  · exact W_main_arg1 m (dats m) c
  · exact W_main_arg2 m (dats m) c
  · exact W_main_arg3 m (dats m) c

end Cert.ReferenceIdeal.Val

end
-- ==== Proof.Pre.lean ====
/-
  What the precondition `no_negative_nan` says of `d`: read as a natural number, each 16-bit pattern is at most 64512
  (minus infinity's pattern), so that none is a NaN with its sign bit set.
-/
module

public import proofs.«01_k».proof.Pre_no_negative_nan
public import Idealize.ShloMosaic.Lib.Pointwise
public import Idealize.ShloMosaic.PureOps.Ideal

@[expose] public section

noncomputable section

namespace Cert.Pre_no_negative_nan

open Idealize.ShloMosaic

/-- The predicate's side conditions. -/
theorem facts : Facts := ⟨by decide, by decide⟩

theorem bound_of_bit (b : BitVec 16)
    (h : IntOp.ori (IntOp.cmpi .sge (b.signExtend 32) 0#32) (IntOp.cmpi .sle (b.signExtend 32) 4294966272#32) = 1#1) : b.toNat ≤ 64512 := by
  by_contra hb
  have hlt : b.toNat < 65536 := b.isLt
  have hs : b.toInt = (b.toNat : ℤ) - 65536 := by rw [BitVec.toInt_eq_toNat_cond]; split <;> omega
  have he : (b.signExtend 32).toInt = (b.toNat : ℤ) - 65536 := by rw [BitVec.toInt_signExtend_of_le (by omega), hs]
  have h1 : (0#32).toInt = 0 := by decide
  have h2 : (4294966272#32).toInt = -1024 := by decide
  revert h
  simp [IntOp.ori, IntOp.cmpi, BitVec.sle, he, h1, h2]
  rw [decide_eq_false (by omega), decide_eq_false hb]
  decide

/-- Under the precondition no pattern of `d` is above minus infinity's. -/
theorem bound [Facts] {F : FTy → Type} [FloatOps F] (x : FVec F S256x1x7168 .bf16) (ql : IVec S28x2x64x18432 8) (qh : IVec S28x2x32x18432 8)
    (sc : IVec S28x16x18432 8) (d : IVec S28x18432 16) (h : fn x ql qh sc d = fun _ => 1#1) (n : Fin 28) (o : Fin 18432) : (d (ix2 n o)).toNat ≤ 64512 := by
  have e := congrFun h (ix2 n o)
  refine bound_of_bit _ ?_
  revert e
  pointwise [fn]
  exact id

end Cert.Pre_no_negative_nan

end
-- ==== Proof.Equation.lean ====
/-
  The equation between the two programs: from memories that agree on the arguments, and under the precondition, both runs
  end with `total` of the arguments at every index of their results.
-/
module

public import proofs.«01_k».proof.Defs
public import proofs.«01_k».proof.Proof.Array
public import proofs.«01_k».proof.Proof.RefRun
public import proofs.«01_k».proof.Proof.Pre
public import proofs.«01_k».proof.Proof.Gen.KernelIdeal.Value

@[expose] public section

noncomputable section

namespace Cert.Proof

open Idealize.ShloMosaic Idealize.SL.Sem

/-- THE VALUE CLAIM: the kernel's result array and the reference's are equal, element by element. -/
theorem algebraic : Cert.algebraic_KernelIdeal_ReferenceIdeal_pre_no_negative_nan (hKernelIdeal := Cert.KernelIdeal.Gen.facts)
    (hReferenceIdeal := Cert.ReferenceIdeal.Gen.facts) (hPre_no_negative_nan := Cert.Pre_no_negative_nan.facts) := by
  intro m g m' g' hpre hag
  have hb : ∀ (c : Dev Cert.KernelIdeal.nD) n o, (m ((c.tc : Thread Cert.KernelIdeal.nD Cert.KernelIdeal.τ).loc Cert.KernelIdeal.main_arg4) (ix2 n o)).toNat ≤ 64512 := fun c n o =>
    @Cert.Pre_no_negative_nan.bound Cert.Pre_no_negative_nan.facts _ _ _ _ _ _ _ (hpre c) n o
  refine ⟨fun c => fun i : Cert.KernelIdeal.S256x18432.Idx =>
    Cert.KernelIdeal.Val.total (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (i 0) (i 1), ?_, ?_⟩
  · exact (θ_run _ _ _).mono (fun r h c => ⟨(h c).1.trans (Cert.KernelIdeal.Val.array_eq m c (hb c)), (h c).2⟩) (Cert.KernelIdeal.Value.run_blocks m g)
  · refine (θ_run _ _ _).mono (fun r h c => ⟨(h c).1.trans ?_, (h c).2⟩) (Cert.ReferenceIdeal.Val.run m' g')
    obtain ⟨h0, h1, h2, h3, h4⟩ := hag c
    rw [h0, h1, h2, h3, h4]
    funext i
    rw [eq_ix2 (n0 := 256) (n1 := 18432) i]
    exact Cert.ReferenceIdeal.Val.result_apply _ _ _ _ _ _ (fun _ _ => rfl) (i 0) (i 1)

end Cert.Proof

end
-- ==== Proof.lean ====
/-
  The proof of `Cert.Claim` (proofs.«01_k».proof.Defs): the three programs run, end with their arguments unchanged and every
  semaphore counter at zero (the generated frames, with the precondition or without it); the idealization rewrote nothing; and
  the kernel's result equals the reference's at the ideal values (Proof/Equation.lean).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Equation
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_no_negative_nan.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
